-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v198) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x32x512x512 : Shape := ⟨4, ![1, 32, 512, 512]⟩
abbrev S32x512x512 : Shape := ⟨3, ![32, 512, 512]⟩
abbrev S1x1 : Shape := ⟨2, ![1, 1]⟩
abbrev S_ : Shape := ⟨0, ![]⟩
abbrev S1 : Shape := ⟨1, ![1]⟩
abbrev S8 : Shape := ⟨1, ![8]⟩
abbrev S1x8 : Shape := ⟨2, ![1, 8]⟩
abbrev S32x64x512 : Shape := ⟨3, ![32, 64, 512]⟩
abbrev S32x64x1 : Shape := ⟨3, ![32, 64, 1]⟩
abbrev S32x64x511 : Shape := ⟨3, ![32, 64, 511]⟩
abbrev S1x32x64x512 : Shape := ⟨4, ![1, 32, 64, 512]⟩
abbrev S1x1x1x1 : Shape := ⟨4, ![1, 1, 1, 1]⟩
abbrev S32x8x512 : Shape := ⟨3, ![32, 8, 512]⟩
abbrev S32x8x1 : Shape := ⟨3, ![32, 8, 1]⟩
abbrev S32x8x511 : Shape := ⟨3, ![32, 8, 511]⟩
abbrev S1x8x512 : Shape := ⟨3, ![1, 8, 512]⟩
abbrev S8x512 : Shape := ⟨2, ![8, 512]⟩
abbrev S512x64 : Shape := ⟨2, ![512, 64]⟩
abbrev S64x512 : Shape := ⟨2, ![64, 512]⟩
abbrev S32x512 : Shape := ⟨2, ![32, 512]⟩
abbrev S32x64 : Shape := ⟨2, ![32, 64]⟩
abbrev S1x64 : Shape := ⟨2, ![1, 64]⟩
abbrev S64 : Shape := ⟨1, ![64]⟩
abbrev S32x1x512 : Shape := ⟨3, ![32, 1, 512]⟩
abbrev S8x511 : Shape := ⟨2, ![8, 511]⟩
abbrev S8x1 : Shape := ⟨2, ![8, 1]⟩
abbrev S8x510 : Shape := ⟨2, ![8, 510]⟩
abbrev S8x2 : Shape := ⟨2, ![8, 2]⟩
abbrev S8x508 : Shape := ⟨2, ![8, 508]⟩
abbrev S8x4 : Shape := ⟨2, ![8, 4]⟩
abbrev S512 : Shape := ⟨1, ![512]⟩
abbrev S1x512 : Shape := ⟨2, ![1, 512]⟩

abbrev nBuf : Space → Nat
  | .hbm => 39
  | .vmem => 6
  | .smem => 3
  | _ => 0

abbrev bufTy : (tb : Table) → Fin (tcTables nBuf tb) → BufTy
  | .hbm, ⟨0, _⟩ => ⟨S1x32x512x512, .f32⟩
  | .hbm, ⟨1, _⟩ => ⟨S32x512x512, .f32⟩
  | .hbm, ⟨2, _⟩ => ⟨S1x1, .f32⟩
  | .hbm, ⟨3, _⟩ => ⟨S1x1, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S1, .f32⟩
  | .hbm, ⟨28, _⟩ => ⟨S1, .f32⟩
  | .hbm, ⟨29, _⟩ => ⟨S1, .f32⟩
  | .hbm, ⟨30, _⟩ => ⟨S1, .f32⟩
  | .hbm, ⟨31, _⟩ => ⟨S1, .f32⟩
  | .hbm, ⟨32, _⟩ => ⟨S1, .f32⟩
  | .hbm, ⟨33, _⟩ => ⟨S1, .f32⟩
  | .hbm, ⟨34, _⟩ => ⟨S1, .f32⟩
  | .hbm, ⟨35, _⟩ => ⟨S8, .f32⟩
  | .hbm, ⟨36, _⟩ => ⟨S1x8, .f32⟩
  | .hbm, ⟨37, _⟩ => ⟨S32x512x512, .f32⟩
  | .hbm, ⟨38, _⟩ => ⟨S1x32x512x512, .f32⟩
  | .local _ .vmem, ⟨0, _⟩ => ⟨S32x64x512, .f32⟩
  | .local _ .vmem, ⟨1, _⟩ => ⟨S32x64x512, .f32⟩
  | .local _ .vmem, ⟨2, _⟩ => ⟨S32x8x512, .f32⟩
  | .local _ .vmem, ⟨3, _⟩ => ⟨S32x8x512, .f32⟩
  | .local _ .vmem, ⟨4, _⟩ => ⟨S32x8x512, .f32⟩
  | .local _ .vmem, ⟨5, _⟩ => ⟨S32x8x512, .f32⟩
  | .local _ .smem, ⟨0, _⟩ => ⟨S1x1, .f32⟩
  | .local _ .smem, ⟨1, _⟩ => ⟨S1x1, .f32⟩
  | .local _ .smem, ⟨2, _⟩ => ⟨S1x8, .f32⟩
  | _, _ => ⟨S1x32x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_call0_v0 : Ref sig .tc := ⟨.hbm, 1, rfl⟩
abbrev main_call0_v1_0 : Ref sig .tc := ⟨.hbm, 2, rfl⟩
abbrev main_call0_v1_1 : Ref sig .tc := ⟨.hbm, 3, rfl⟩
abbrev main_call0_v2 : Ref sig .tc := ⟨.hbm, 4, rfl⟩
abbrev main_call0_v3 : Ref sig .tc := ⟨.hbm, 5, rfl⟩
abbrev main_call0_v4 : Ref sig .tc := ⟨.hbm, 6, rfl⟩
abbrev main_call0_cst : Ref sig .tc := ⟨.hbm, 7, rfl⟩
abbrev main_call0_v5 : Ref sig .tc := ⟨.hbm, 8, rfl⟩
abbrev main_call0_cst_0 : Ref sig .tc := ⟨.hbm, 9, rfl⟩
abbrev main_call0_v6 : Ref sig .tc := ⟨.hbm, 10, rfl⟩
abbrev main_call0_cst_1 : Ref sig .tc := ⟨.hbm, 11, rfl⟩
abbrev main_call0_v7 : Ref sig .tc := ⟨.hbm, 12, rfl⟩
abbrev main_call0_v8 : Ref sig .tc := ⟨.hbm, 13, rfl⟩
abbrev main_call0_cst_2 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_cst_3 : Ref sig .tc := ⟨.hbm, 18, rfl⟩
abbrev main_call0_v12 : Ref sig .tc := ⟨.hbm, 19, rfl⟩
abbrev main_call0_cst_4 : Ref sig .tc := ⟨.hbm, 20, rfl⟩
abbrev main_call0_v13 : Ref sig .tc := ⟨.hbm, 21, rfl⟩
abbrev main_call0_cst_5 : Ref sig .tc := ⟨.hbm, 22, rfl⟩
abbrev main_call0_v14 : Ref sig .tc := ⟨.hbm, 23, rfl⟩
abbrev main_call0_cst_6 : Ref sig .tc := ⟨.hbm, 24, rfl⟩
abbrev main_call0_cst_7 : Ref sig .tc := ⟨.hbm, 25, rfl⟩
abbrev main_call0_cst_8 : Ref sig .tc := ⟨.hbm, 26, rfl⟩
abbrev main_call0_v15 : Ref sig .tc := ⟨.hbm, 27, rfl⟩
abbrev main_call0_v16 : Ref sig .tc := ⟨.hbm, 28, rfl⟩
abbrev main_call0_v17 : Ref sig .tc := ⟨.hbm, 29, rfl⟩
abbrev main_call0_v18 : Ref sig .tc := ⟨.hbm, 30, rfl⟩
abbrev main_call0_v19 : Ref sig .tc := ⟨.hbm, 31, rfl⟩
abbrev main_call0_v20 : Ref sig .tc := ⟨.hbm, 32, rfl⟩
abbrev main_call0_v21 : Ref sig .tc := ⟨.hbm, 33, rfl⟩
abbrev main_call0_v22 : Ref sig .tc := ⟨.hbm, 34, rfl⟩
abbrev main_call0_v23 : Ref sig .tc := ⟨.hbm, 35, rfl⟩
abbrev main_call0_v24 : Ref sig .tc := ⟨.hbm, 36, rfl⟩
abbrev main_call0_v25 : Ref sig .tc := ⟨.hbm, 37, rfl⟩
abbrev main_v0 : Ref sig .tc := ⟨.hbm, 38, rfl⟩
abbrev cc0_stg0_0 : Ref sig .tc := ⟨.vmem, 0, rfl⟩
abbrev cc0_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc1_stg2_0 : Ref sig .tc := ⟨.vmem, 4, rfl⟩
abbrev cc1_stg2_1 : Ref sig .tc := ⟨.vmem, 5, rfl⟩
abbrev cc0_stg1_0 : Ref sig .tc := ⟨.smem, 0, rfl⟩
abbrev cc0_stg2_0 : Ref sig .tc := ⟨.smem, 1, rfl⟩
abbrev cc1_stg0_0 : Ref sig .tc := ⟨.smem, 2, rfl⟩
abbrev cc0_sem0_0 : DmaSem sig := 0
abbrev cc0_sem0_1 : DmaSem sig := 1
abbrev cc0_sem1_0 : DmaSem sig := 2
abbrev cc0_sem2_0 : DmaSem sig := 3
abbrev cc1_sem0_0 : DmaSem sig := 4
abbrev cc1_sem1_0 : DmaSem sig := 5
abbrev cc1_sem1_1 : DmaSem sig := 6
abbrev cc1_sem2_0 : DmaSem sig := 7
abbrev cc1_sem2_1 : DmaSem sig := 8

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v14 : BitVec 1 := Scalar.cmpi .eq arg0 c0_i32
  let v15 : BitVec 32 := Scalar.extui v14
  let c0_i32_4 : BitVec 32 := 0#32
  let v16 : BitVec 1 := Scalar.cmpi .ne v15 c0_i32_4
  v16

def k0_cond2 (i : grid0.Coords) : BitVec 1 :=
  let arg0 : BitVec 32 := BitVec.ofNat 32 (i 0).val
  let c0_i32_5 : BitVec 32 := 0#32
  let v17 : BitVec 1 := Scalar.cmpi .sgt arg0 c0_i32_5
  let v18 : BitVec 32 := Scalar.extui v17
  let c0_i32_6 : BitVec 32 := 0#32
  let v19 : BitVec 1 := Scalar.cmpi .ne v18 c0_i32_6
  v19

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S32x64x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .smem S1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .smem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev grid1 : Pipeline.Grid := ⟨1, ![64], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage1_0 : Fin 1 → Memref sig .tc .smem S1x8 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S32x8x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S32x8x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]
-- ==== ReferenceIdeal.lean ====
abbrev S1x32x512x512 : Shape := ⟨4, ![1, 32, 512, 512]⟩
abbrev S_ : Shape := ⟨0, ![]⟩
abbrev S1x32x512x1 : Shape := ⟨4, ![1, 32, 512, 1]⟩
abbrev S1x32x512x511 : Shape := ⟨4, ![1, 32, 512, 511]⟩
abbrev S1x32x512x64x8 : Shape := ⟨5, ![1, 32, 512, 64, 8]⟩
abbrev S1x32x64x512x8 : Shape := ⟨5, ![1, 32, 64, 512, 8]⟩
abbrev S1x32x64x64x8x8 : Shape := ⟨6, ![1, 32, 64, 64, 8, 8]⟩
abbrev S1x64x64x32x8x8 : Shape := ⟨6, ![1, 64, 64, 32, 8, 8]⟩
abbrev S1x64x64x32x64 : Shape := ⟨5, ![1, 64, 64, 32, 64]⟩
abbrev S1x64x64x64x32 : Shape := ⟨5, ![1, 64, 64, 64, 32]⟩
abbrev S64x64x64x32 : Shape := ⟨4, ![64, 64, 64, 32]⟩
abbrev S64x64x32x64 : Shape := ⟨4, ![64, 64, 32, 64]⟩
abbrev S64x64x1x64 : Shape := ⟨4, ![64, 64, 1, 64]⟩
abbrev S64x64x64 : Shape := ⟨3, ![64, 64, 64]⟩
abbrev S64x64x3x64 : Shape := ⟨4, ![64, 64, 3, 64]⟩
abbrev S64x64x1 : Shape := ⟨3, ![64, 64, 1]⟩
abbrev S64x64 : Shape := ⟨2, ![64, 64]⟩
abbrev S64x64x64x3 : Shape := ⟨4, ![64, 64, 64, 3]⟩
abbrev S64x64x3x3 : Shape := ⟨4, ![64, 64, 3, 3]⟩
abbrev S3x3 : Shape := ⟨2, ![3, 3]⟩
abbrev S64x64x1x1 : Shape := ⟨4, ![64, 64, 1, 1]⟩
abbrev S64x64x3x6 : Shape := ⟨4, ![64, 64, 3, 6]⟩
abbrev S3 : Shape := ⟨1, ![3]⟩
abbrev S1x1x3x1 : Shape := ⟨4, ![1, 1, 3, 1]⟩
abbrev S64x64x1x6 : Shape := ⟨4, ![64, 64, 1, 6]⟩
abbrev S64x64x3x1 : Shape := ⟨4, ![64, 64, 3, 1]⟩
abbrev S64x64x3x32 : Shape := ⟨4, ![64, 64, 3, 32]⟩
abbrev S64x64x32 : Shape := ⟨3, ![64, 64, 32]⟩
abbrev S64x64x32x1 : Shape := ⟨4, ![64, 64, 32, 1]⟩
abbrev S64x64x32x8x8 : Shape := ⟨5, ![64, 64, 32, 8, 8]⟩
abbrev S32x64x8x64x8 : Shape := ⟨5, ![32, 64, 8, 64, 8]⟩
abbrev S32x512x512 : Shape := ⟨3, ![32, 512, 512]⟩

abbrev nBuf : Space → Nat
  | .hbm => 238
  | .vmem => 0
  | .smem => 0
  | _ => 0

abbrev hbmTy0_0 (i : Nat) : BufTy := match i % 128 with
  | 0 => ⟨S1x32x512x512, .f32⟩
  | 1 => ⟨S_, .f32⟩
  | 2 => ⟨S1x32x512x1, .f32⟩
  | 3 => ⟨S1x32x512x511, .f32⟩
  | 4 => ⟨S1x32x512x512, .f32⟩
  | 5 => ⟨S1x32x512x512, .f32⟩
  | 6 => ⟨S_, .f32⟩
  | 7 => ⟨S_, .f32⟩
  | 8 => ⟨S_, .f32⟩
  | 9 => ⟨S_, .f32⟩
  | 10 => ⟨S_, .f32⟩
  | 11 => ⟨S_, .f32⟩
  | 12 => ⟨S_, .f32⟩
  | 13 => ⟨S1x32x512x512, .f32⟩
  | 14 => ⟨S1x32x512x512, .f32⟩
  | 15 => ⟨S1x32x512x512, .f32⟩
  | 16 => ⟨S1x32x512x512, .f32⟩
  | 17 => ⟨S1x32x512x512, .f32⟩
  | 18 => ⟨S1x32x512x512, .f32⟩
  | 19 => ⟨S1x32x512x512, .f32⟩
  | 20 => ⟨S_, .f32⟩
  | 21 => ⟨S_, .f32⟩
  | 22 => ⟨S1x32x512x512, .f32⟩
  | 23 => ⟨S1x32x512x512, .f32⟩
  | 24 => ⟨S1x32x512x512, .f32⟩
  | 25 => ⟨S1x32x512x512, .f32⟩
  | 26 => ⟨S1x32x512x64x8, .f32⟩
  | 27 => ⟨S1x32x64x512x8, .f32⟩
  | 28 => ⟨S1x32x64x64x8x8, .f32⟩
  | 29 => ⟨S1x64x64x32x8x8, .f32⟩
  | 30 => ⟨S1x64x64x32x64, .f32⟩
  | 31 => ⟨S1x64x64x64x32, .f32⟩
  | 32 => ⟨S64x64x64x32, .f32⟩
  | 33 => ⟨S64x64x32x64, .f32⟩
  | 34 => ⟨S64x64x1x64, .f32⟩
  | 35 => ⟨S64x64x64, .f32⟩
  | 36 => ⟨S64x64x1x64, .f32⟩
  | 37 => ⟨S64x64x1x64, .f32⟩
  | 38 => ⟨S64x64x64, .f32⟩
  | 39 => ⟨S64x64x1x64, .f32⟩
  | 40 => ⟨S_, .f32⟩
  | 41 => ⟨S64x64x1x64, .f32⟩
  | 42 => ⟨S64x64x3x64, .f32⟩
  | 43 => ⟨S_, .f32⟩
  | 44 => ⟨S64x64x1, .f32⟩
  | 45 => ⟨S64x64, .f32⟩
  | 46 => ⟨S_, .f32⟩
  | 47 => ⟨S64x64x1, .f32⟩
  | 48 => ⟨S64x64, .f32⟩
  | 49 => ⟨S_, .f32⟩
  | 50 => ⟨S64x64x1, .f32⟩
  | 51 => ⟨S64x64, .f32⟩
  | 52 => ⟨S_, .f32⟩
  | 53 => ⟨S64x64x1, .f32⟩
  | 54 => ⟨S64x64, .f32⟩
  | 55 => ⟨S64x64, .f32⟩
  | 56 => ⟨S_, .f32⟩
  | 57 => ⟨S64x64, .f32⟩
  | 58 => ⟨S64x64, .i1⟩
  | 59 => ⟨S64x64, .f32⟩
  | 60 => ⟨S_, .f32⟩
  | 61 => ⟨S64x64, .f32⟩
  | 62 => ⟨S64x64, .i1⟩
  | 63 => ⟨S64x64, .i1⟩
  | 64 => ⟨S64x64x64x3, .f32⟩
  | 65 => ⟨S64x64x3x3, .f32⟩
  | 66 => ⟨S3x3, .i32⟩
  | 67 => ⟨S3x3, .i32⟩
  | 68 => ⟨S_, .i32⟩
  | 69 => ⟨S3x3, .i32⟩
  | 70 => ⟨S3x3, .i32⟩
  | 71 => ⟨S3x3, .i1⟩
  | 72 => ⟨S3x3, .f32⟩
  | 73 => ⟨S64x64x1x1, .f32⟩
  | 74 => ⟨S64x64, .f32⟩
  | 75 => ⟨S64x64x1x1, .f32⟩
  | 76 => ⟨S64x64, .f32⟩
  | 77 => ⟨S64x64, .f32⟩
  | 78 => ⟨S64x64x1x1, .f32⟩
  | 79 => ⟨S64x64, .f32⟩
  | 80 => ⟨S64x64, .f32⟩
  | 81 => ⟨S64x64x1x1, .f32⟩
  | 82 => ⟨S64x64, .f32⟩
  | 83 => ⟨S64x64x1x1, .f32⟩
  | 84 => ⟨S64x64, .f32⟩
  | 85 => ⟨S64x64, .f32⟩
  | 86 => ⟨S64x64x1x1, .f32⟩
  | 87 => ⟨S64x64, .f32⟩
  | 88 => ⟨S64x64, .f32⟩
  | 89 => ⟨S64x64, .f32⟩
  | 90 => ⟨S64x64x1x1, .f32⟩
  | 91 => ⟨S64x64, .f32⟩
  | 92 => ⟨S64x64x1x1, .f32⟩
  | 93 => ⟨S64x64, .f32⟩
  | 94 => ⟨S64x64, .f32⟩
  | 95 => ⟨S64x64x1x1, .f32⟩
  | 96 => ⟨S64x64, .f32⟩
  | 97 => ⟨S64x64, .f32⟩
  | 98 => ⟨S64x64, .f32⟩
  | 99 => ⟨S64x64x1x1, .f32⟩
  | 100 => ⟨S64x64, .f32⟩
  | 101 => ⟨S64x64x1x1, .f32⟩
  | 102 => ⟨S64x64, .f32⟩
  | 103 => ⟨S64x64, .f32⟩
  | 104 => ⟨S64x64x1x1, .f32⟩
  | 105 => ⟨S64x64, .f32⟩
  | 106 => ⟨S64x64, .f32⟩
  | 107 => ⟨S64x64, .f32⟩
  | 108 => ⟨S64x64x1x1, .f32⟩
  | 109 => ⟨S64x64, .f32⟩
  | 110 => ⟨S64x64x1x1, .f32⟩
  | 111 => ⟨S64x64, .f32⟩
  | 112 => ⟨S64x64, .f32⟩
  | 113 => ⟨S64x64x1x1, .f32⟩
  | 114 => ⟨S64x64, .f32⟩
  | 115 => ⟨S64x64, .f32⟩
  | 116 => ⟨S64x64, .f32⟩
  | 117 => ⟨S64x64x1x1, .f32⟩
  | 118 => ⟨S64x64, .f32⟩
  | 119 => ⟨S64x64x1x1, .f32⟩
  | 120 => ⟨S64x64, .f32⟩
  | 121 => ⟨S64x64, .f32⟩
  | 122 => ⟨S64x64x1x1, .f32⟩
  | 123 => ⟨S64x64, .f32⟩
  | 124 => ⟨S64x64, .f32⟩
  | 125 => ⟨S64x64, .f32⟩
  | 126 => ⟨S_, .f32⟩
  | 127 => ⟨S64x64, .f32⟩
  | _ => ⟨S1x32x512x512, .f32⟩

abbrev hbmTy0_1 (i : Nat) : BufTy := match i % 128 with
  | 0 => ⟨S64x64, .i1⟩
  | 1 => ⟨S64x64x1x1, .i1⟩
  | 2 => ⟨S64x64x3x3, .i1⟩
  | 3 => ⟨S64x64x3x3, .f32⟩
  | 4 => ⟨S64x64x3x3, .f32⟩
  | 5 => ⟨S3x3, .i32⟩
  | 6 => ⟨S3x3, .i32⟩
  | 7 => ⟨S_, .i32⟩
  | 8 => ⟨S3x3, .i32⟩
  | 9 => ⟨S3x3, .i32⟩
  | 10 => ⟨S3x3, .i1⟩
  | 11 => ⟨S3x3, .f32⟩
  | 12 => ⟨S64x64x3x3, .f32⟩
  | 13 => ⟨S64x64x3x6, .f32⟩
  | 14 => ⟨S3, .i32⟩
  | 15 => ⟨S1x1x3x1, .i32⟩
  | 16 => ⟨S64x64x1x6, .f32⟩
  | 17 => ⟨S64x64x1x1, .f32⟩
  | 18 => ⟨S64x64x1x6, .f32⟩
  | 19 => ⟨S64x64x1x6, .f32⟩
  | 20 => ⟨S_, .i32⟩
  | 21 => ⟨S1x1x3x1, .i32⟩
  | 22 => ⟨S1x1x3x1, .i1⟩
  | 23 => ⟨S64x64x3x1, .f32⟩
  | 24 => ⟨S64x64x3x6, .f32⟩
  | 25 => ⟨S64x64x3x6, .f32⟩
  | 26 => ⟨S64x64x3x6, .f32⟩
  | 27 => ⟨S64x64x3x6, .f32⟩
  | 28 => ⟨S64x64x3x6, .i1⟩
  | 29 => ⟨S64x64x3x6, .f32⟩
  | 30 => ⟨S64x64x3x6, .f32⟩
  | 31 => ⟨S64x64x1x6, .f32⟩
  | 32 => ⟨S64x64x1x1, .f32⟩
  | 33 => ⟨S64x64x1x6, .f32⟩
  | 34 => ⟨S64x64x1x6, .f32⟩
  | 35 => ⟨S_, .i32⟩
  | 36 => ⟨S1x1x3x1, .i32⟩
  | 37 => ⟨S1x1x3x1, .i1⟩
  | 38 => ⟨S64x64x3x1, .f32⟩
  | 39 => ⟨S64x64x3x6, .f32⟩
  | 40 => ⟨S64x64x3x6, .f32⟩
  | 41 => ⟨S64x64x3x6, .f32⟩
  | 42 => ⟨S64x64x3x6, .f32⟩
  | 43 => ⟨S64x64x3x6, .i1⟩
  | 44 => ⟨S64x64x3x6, .f32⟩
  | 45 => ⟨S64x64x3x6, .f32⟩
  | 46 => ⟨S64x64x1x6, .f32⟩
  | 47 => ⟨S64x64x1x1, .f32⟩
  | 48 => ⟨S64x64x1x6, .f32⟩
  | 49 => ⟨S64x64x1x6, .f32⟩
  | 50 => ⟨S_, .i32⟩
  | 51 => ⟨S1x1x3x1, .i32⟩
  | 52 => ⟨S1x1x3x1, .i1⟩
  | 53 => ⟨S64x64x3x1, .f32⟩
  | 54 => ⟨S64x64x3x6, .f32⟩
  | 55 => ⟨S64x64x3x6, .f32⟩
  | 56 => ⟨S64x64x3x6, .f32⟩
  | 57 => ⟨S64x64x3x6, .f32⟩
  | 58 => ⟨S64x64x3x6, .i1⟩
  | 59 => ⟨S64x64x3x6, .f32⟩
  | 60 => ⟨S64x64x3x6, .f32⟩
  | 61 => ⟨S64x64x3x3, .f32⟩
  | 62 => ⟨S64x64x3x64, .f32⟩
  | 63 => ⟨S64x64x3x32, .f32⟩
  | 64 => ⟨S64x64x64x32, .f32⟩
  | 65 => ⟨S64x64x32x64, .f32⟩
  | 66 => ⟨S_, .f32⟩
  | 67 => ⟨S_, .f32⟩
  | 68 => ⟨S_, .f32⟩
  | 69 => ⟨S_, .f32⟩
  | 70 => ⟨S_, .f32⟩
  | 71 => ⟨S_, .f32⟩
  | 72 => ⟨S_, .f32⟩
  | 73 => ⟨S_, .f32⟩
  | 74 => ⟨S_, .f32⟩
  | 75 => ⟨S_, .f32⟩
  | 76 => ⟨S_, .f32⟩
  | 77 => ⟨S_, .f32⟩
  | 78 => ⟨S_, .f32⟩
  | 79 => ⟨S64x64x32x64, .f32⟩
  | 80 => ⟨S64x64x32x64, .f32⟩
  | 81 => ⟨S64x64x32x64, .f32⟩
  | 82 => ⟨S64x64x32x64, .f32⟩
  | 83 => ⟨S64x64x32x64, .f32⟩
  | 84 => ⟨S64x64x32x64, .f32⟩
  | 85 => ⟨S64x64x32x64, .f32⟩
  | 86 => ⟨S64x64x32x64, .f32⟩
  | 87 => ⟨S64x64x32x64, .f32⟩
  | 88 => ⟨S_, .f32⟩
  | 89 => ⟨S64x64x32, .f32⟩
  | 90 => ⟨S64x64x1, .i1⟩
  | 91 => ⟨S_, .f32⟩
  | 92 => ⟨S_, .f32⟩
  | 93 => ⟨S64x64x32, .i1⟩
  | 94 => ⟨S64x64x32, .f32⟩
  | 95 => ⟨S64x64x32, .f32⟩
  | 96 => ⟨S_, .f32⟩
  | 97 => ⟨S64x64x32, .f32⟩
  | 98 => ⟨S64x64x32, .i1⟩
  | 99 => ⟨S64x64x32x1, .i1⟩
  | 100 => ⟨S64x64x32x64, .i1⟩
  | 101 => ⟨S64x64x32x64, .f32⟩
  | 102 => ⟨S64x64x1x1, .i1⟩
  | 103 => ⟨S64x64x32x64, .i1⟩
  | 104 => ⟨S64x64x32x64, .f32⟩
  | 105 => ⟨S64x64x32x8x8, .f32⟩
  | 106 => ⟨S32x64x8x64x8, .f32⟩
  | 107 => ⟨S32x512x512, .f32⟩
  | 108 => ⟨S1x32x512x512, .f32⟩
  | 109 => ⟨S1x32x512x512, .f32⟩
  | _ => ⟨S1x32x512x512, .f32⟩

abbrev hbmTy (i : Nat) : BufTy := match i / 128 with
  | 0 => hbmTy0_0 i
  | 1 => hbmTy0_1 i
  | _ => ⟨S1x32x512x512, .f32⟩

abbrev bufTy : (tb : Table) → Fin (tcTables nBuf tb) → BufTy
  | .hbm, ⟨i, _⟩ => hbmTy i
  | _, _ => ⟨S1x32x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst_0 : Ref sig .tc := ⟨.hbm, 6, rfl⟩
abbrev main_v4 : Ref sig .tc := ⟨.hbm, 7, rfl⟩
abbrev main_cst_1 : Ref sig .tc := ⟨.hbm, 8, rfl⟩
abbrev main_v5 : Ref sig .tc := ⟨.hbm, 9, rfl⟩
abbrev main_v6 : Ref sig .tc := ⟨.hbm, 10, rfl⟩
abbrev main_cst_2 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_3 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_cst_4 : Ref sig .tc := ⟨.hbm, 40, rfl⟩
abbrev main_v34 : Ref sig .tc := ⟨.hbm, 41, rfl⟩
abbrev main_v35 : Ref sig .tc := ⟨.hbm, 42, rfl⟩
abbrev main_cst_5 : Ref sig .tc := ⟨.hbm, 43, rfl⟩
abbrev main_v36 : Ref sig .tc := ⟨.hbm, 44, rfl⟩
abbrev main_v37 : Ref sig .tc := ⟨.hbm, 45, rfl⟩
abbrev main_cst_6 : Ref sig .tc := ⟨.hbm, 46, rfl⟩
abbrev main_v38 : Ref sig .tc := ⟨.hbm, 47, rfl⟩
abbrev main_v39 : Ref sig .tc := ⟨.hbm, 48, rfl⟩
abbrev main_cst_7 : Ref sig .tc := ⟨.hbm, 49, rfl⟩
abbrev main_v40 : Ref sig .tc := ⟨.hbm, 50, rfl⟩
abbrev main_v41 : Ref sig .tc := ⟨.hbm, 51, rfl⟩
abbrev main_cst_8 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_cst_9 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_cst_10 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_c : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_v76 : Ref sig .tc := ⟨.hbm, 90, rfl⟩
abbrev main_v77 : Ref sig .tc := ⟨.hbm, 91, rfl⟩
abbrev main_v78 : Ref sig .tc := ⟨.hbm, 92, rfl⟩
abbrev main_v79 : Ref sig .tc := ⟨.hbm, 93, rfl⟩
abbrev main_v80 : Ref sig .tc := ⟨.hbm, 94, rfl⟩
abbrev main_v81 : Ref sig .tc := ⟨.hbm, 95, rfl⟩
abbrev main_v82 : Ref sig .tc := ⟨.hbm, 96, rfl⟩
abbrev main_v83 : Ref sig .tc := ⟨.hbm, 97, rfl⟩
abbrev main_v84 : Ref sig .tc := ⟨.hbm, 98, rfl⟩
abbrev main_v85 : Ref sig .tc := ⟨.hbm, 99, rfl⟩
abbrev main_v86 : Ref sig .tc := ⟨.hbm, 100, rfl⟩
abbrev main_v87 : Ref sig .tc := ⟨.hbm, 101, rfl⟩
abbrev main_v88 : Ref sig .tc := ⟨.hbm, 102, rfl⟩
abbrev main_v89 : Ref sig .tc := ⟨.hbm, 103, rfl⟩
abbrev main_v90 : Ref sig .tc := ⟨.hbm, 104, rfl⟩
abbrev main_v91 : Ref sig .tc := ⟨.hbm, 105, rfl⟩
abbrev main_v92 : Ref sig .tc := ⟨.hbm, 106, rfl⟩
abbrev main_v93 : Ref sig .tc := ⟨.hbm, 107, rfl⟩
abbrev main_v94 : Ref sig .tc := ⟨.hbm, 108, rfl⟩
abbrev main_v95 : Ref sig .tc := ⟨.hbm, 109, rfl⟩
abbrev main_v96 : Ref sig .tc := ⟨.hbm, 110, rfl⟩
abbrev main_v97 : Ref sig .tc := ⟨.hbm, 111, rfl⟩
abbrev main_v98 : Ref sig .tc := ⟨.hbm, 112, rfl⟩
abbrev main_v99 : Ref sig .tc := ⟨.hbm, 113, rfl⟩
abbrev main_v100 : Ref sig .tc := ⟨.hbm, 114, rfl⟩
abbrev main_v101 : Ref sig .tc := ⟨.hbm, 115, rfl⟩
abbrev main_v102 : Ref sig .tc := ⟨.hbm, 116, rfl⟩
abbrev main_v103 : Ref sig .tc := ⟨.hbm, 117, rfl⟩
abbrev main_v104 : Ref sig .tc := ⟨.hbm, 118, rfl⟩
abbrev main_v105 : Ref sig .tc := ⟨.hbm, 119, rfl⟩
abbrev main_v106 : Ref sig .tc := ⟨.hbm, 120, rfl⟩
abbrev main_v107 : Ref sig .tc := ⟨.hbm, 121, rfl⟩
abbrev main_v108 : Ref sig .tc := ⟨.hbm, 122, rfl⟩
abbrev main_v109 : Ref sig .tc := ⟨.hbm, 123, rfl⟩
abbrev main_v110 : Ref sig .tc := ⟨.hbm, 124, rfl⟩
abbrev main_v111 : Ref sig .tc := ⟨.hbm, 125, rfl⟩
abbrev main_cst_11 : Ref sig .tc := ⟨.hbm, 126, rfl⟩
abbrev main_v112 : Ref sig .tc := ⟨.hbm, 127, rfl⟩
abbrev main_v113 : Ref sig .tc := ⟨.hbm, 128, rfl⟩
abbrev main_v114 : Ref sig .tc := ⟨.hbm, 129, rfl⟩
abbrev main_call1_v0 : Ref sig .tc := ⟨.hbm, 130, rfl⟩
abbrev main_call1_v1 : Ref sig .tc := ⟨.hbm, 131, rfl⟩
abbrev main_v115 : Ref sig .tc := ⟨.hbm, 132, rfl⟩
abbrev main_v116 : Ref sig .tc := ⟨.hbm, 133, rfl⟩
abbrev main_v117 : Ref sig .tc := ⟨.hbm, 134, rfl⟩
abbrev main_c_12 : Ref sig .tc := ⟨.hbm, 135, rfl⟩
abbrev main_v118 : Ref sig .tc := ⟨.hbm, 136, rfl⟩
abbrev main_v119 : Ref sig .tc := ⟨.hbm, 137, rfl⟩
abbrev main_v120 : Ref sig .tc := ⟨.hbm, 138, rfl⟩
abbrev main_v121 : Ref sig .tc := ⟨.hbm, 139, rfl⟩
abbrev main_v122 : Ref sig .tc := ⟨.hbm, 140, rfl⟩
abbrev main_v123 : Ref sig .tc := ⟨.hbm, 141, rfl⟩
abbrev main_v124 : Ref sig .tc := ⟨.hbm, 142, rfl⟩
abbrev main_v125 : Ref sig .tc := ⟨.hbm, 143, rfl⟩
abbrev main_v126 : Ref sig .tc := ⟨.hbm, 144, rfl⟩
abbrev main_v127 : Ref sig .tc := ⟨.hbm, 145, rfl⟩
abbrev main_v128 : Ref sig .tc := ⟨.hbm, 146, rfl⟩
abbrev main_v129 : Ref sig .tc := ⟨.hbm, 147, rfl⟩
abbrev main_c_13 : Ref sig .tc := ⟨.hbm, 148, rfl⟩
abbrev main_v130 : Ref sig .tc := ⟨.hbm, 149, rfl⟩
abbrev main_v131 : Ref sig .tc := ⟨.hbm, 150, rfl⟩
abbrev main_v132 : Ref sig .tc := ⟨.hbm, 151, rfl⟩
abbrev main_v133 : Ref sig .tc := ⟨.hbm, 152, rfl⟩
abbrev main_v134 : Ref sig .tc := ⟨.hbm, 153, rfl⟩
abbrev main_v135 : Ref sig .tc := ⟨.hbm, 154, rfl⟩
abbrev main_v136 : Ref sig .tc := ⟨.hbm, 155, rfl⟩
abbrev main_call2_v0 : Ref sig .tc := ⟨.hbm, 156, rfl⟩
abbrev main_call2_v1 : Ref sig .tc := ⟨.hbm, 157, rfl⟩
abbrev main_v137 : Ref sig .tc := ⟨.hbm, 158, rfl⟩
abbrev main_v138 : Ref sig .tc := ⟨.hbm, 159, rfl⟩
abbrev main_v139 : Ref sig .tc := ⟨.hbm, 160, rfl⟩
abbrev main_v140 : Ref sig .tc := ⟨.hbm, 161, rfl⟩
abbrev main_v141 : Ref sig .tc := ⟨.hbm, 162, rfl⟩
abbrev main_c_14 : Ref sig .tc := ⟨.hbm, 163, rfl⟩
abbrev main_v142 : Ref sig .tc := ⟨.hbm, 164, rfl⟩
abbrev main_v143 : Ref sig .tc := ⟨.hbm, 165, rfl⟩
abbrev main_v144 : Ref sig .tc := ⟨.hbm, 166, rfl⟩
abbrev main_v145 : Ref sig .tc := ⟨.hbm, 167, rfl⟩
abbrev main_v146 : Ref sig .tc := ⟨.hbm, 168, rfl⟩
abbrev main_v147 : Ref sig .tc := ⟨.hbm, 169, rfl⟩
abbrev main_v148 : Ref sig .tc := ⟨.hbm, 170, rfl⟩
abbrev main_call3_v0 : Ref sig .tc := ⟨.hbm, 171, rfl⟩
abbrev main_call3_v1 : Ref sig .tc := ⟨.hbm, 172, rfl⟩
abbrev main_v149 : Ref sig .tc := ⟨.hbm, 173, rfl⟩
abbrev main_v150 : Ref sig .tc := ⟨.hbm, 174, rfl⟩
abbrev main_v151 : Ref sig .tc := ⟨.hbm, 175, rfl⟩
abbrev main_v152 : Ref sig .tc := ⟨.hbm, 176, rfl⟩
abbrev main_v153 : Ref sig .tc := ⟨.hbm, 177, rfl⟩
abbrev main_c_15 : Ref sig .tc := ⟨.hbm, 178, rfl⟩
abbrev main_v154 : Ref sig .tc := ⟨.hbm, 179, rfl⟩
abbrev main_v155 : Ref sig .tc := ⟨.hbm, 180, rfl⟩
abbrev main_v156 : Ref sig .tc := ⟨.hbm, 181, rfl⟩
abbrev main_v157 : Ref sig .tc := ⟨.hbm, 182, rfl⟩
abbrev main_v158 : Ref sig .tc := ⟨.hbm, 183, rfl⟩
abbrev main_v159 : Ref sig .tc := ⟨.hbm, 184, rfl⟩
abbrev main_v160 : Ref sig .tc := ⟨.hbm, 185, rfl⟩
abbrev main_call4_v0 : Ref sig .tc := ⟨.hbm, 186, rfl⟩
abbrev main_call4_v1 : Ref sig .tc := ⟨.hbm, 187, rfl⟩
abbrev main_v161 : Ref sig .tc := ⟨.hbm, 188, rfl⟩
abbrev main_v162 : Ref sig .tc := ⟨.hbm, 189, rfl⟩
abbrev main_v163 : Ref sig .tc := ⟨.hbm, 190, rfl⟩
abbrev main_v164 : Ref sig .tc := ⟨.hbm, 191, rfl⟩
abbrev main_v165 : Ref sig .tc := ⟨.hbm, 192, rfl⟩
abbrev main_v166 : Ref sig .tc := ⟨.hbm, 193, rfl⟩
abbrev main_cst_16 : Ref sig .tc := ⟨.hbm, 194, rfl⟩
abbrev main_v167 : Ref sig .tc := ⟨.hbm, 195, rfl⟩
abbrev main_v168 : Ref sig .tc := ⟨.hbm, 196, rfl⟩
abbrev main_cst_17 : Ref sig .tc := ⟨.hbm, 197, rfl⟩
abbrev main_v169 : Ref sig .tc := ⟨.hbm, 198, rfl⟩
abbrev main_v170 : Ref sig .tc := ⟨.hbm, 199, rfl⟩
abbrev main_v171 : Ref sig .tc := ⟨.hbm, 200, rfl⟩
abbrev main_v172 : Ref sig .tc := ⟨.hbm, 201, rfl⟩
abbrev main_v173 : Ref sig .tc := ⟨.hbm, 202, rfl⟩
abbrev main_cst_18 : Ref sig .tc := ⟨.hbm, 203, rfl⟩
abbrev main_v174 : Ref sig .tc := ⟨.hbm, 204, rfl⟩
abbrev main_cst_19 : Ref sig .tc := ⟨.hbm, 205, rfl⟩
abbrev main_v175 : Ref sig .tc := ⟨.hbm, 206, rfl⟩
abbrev main_v176 : Ref sig .tc := ⟨.hbm, 207, rfl⟩
abbrev main_v177 : Ref sig .tc := ⟨.hbm, 208, rfl⟩
abbrev main_v178 : Ref sig .tc := ⟨.hbm, 209, rfl⟩
abbrev main_v179 : Ref sig .tc := ⟨.hbm, 210, rfl⟩
abbrev main_v180 : Ref sig .tc := ⟨.hbm, 211, rfl⟩
abbrev main_v181 : Ref sig .tc := ⟨.hbm, 212, rfl⟩
abbrev main_v182 : Ref sig .tc := ⟨.hbm, 213, rfl⟩
abbrev main_v183 : Ref sig .tc := ⟨.hbm, 214, rfl⟩
abbrev main_v184 : Ref sig .tc := ⟨.hbm, 215, rfl⟩
abbrev main_cst_20 : Ref sig .tc := ⟨.hbm, 216, rfl⟩
abbrev main_v185 : Ref sig .tc := ⟨.hbm, 217, rfl⟩
abbrev main_v186 : Ref sig .tc := ⟨.hbm, 218, rfl⟩
abbrev main_cst_21 : Ref sig .tc := ⟨.hbm, 219, rfl⟩
abbrev main_call7_v0 : Ref sig .tc := ⟨.hbm, 220, rfl⟩
abbrev main_call7_v1 : Ref sig .tc := ⟨.hbm, 221, rfl⟩
abbrev main_call7_v2 : Ref sig .tc := ⟨.hbm, 222, rfl⟩
abbrev main_v187 : Ref sig .tc := ⟨.hbm, 223, rfl⟩
abbrev main_cst_22 : Ref sig .tc := ⟨.hbm, 224, rfl⟩
abbrev main_v188 : Ref sig .tc := ⟨.hbm, 225, rfl⟩
abbrev main_v189 : Ref sig .tc := ⟨.hbm, 226, rfl⟩
abbrev main_v190 : Ref sig .tc := ⟨.hbm, 227, rfl⟩
abbrev main_call8_v0 : Ref sig .tc := ⟨.hbm, 228, rfl⟩
abbrev main_v191 : Ref sig .tc := ⟨.hbm, 229, rfl⟩
abbrev main_v192 : Ref sig .tc := ⟨.hbm, 230, rfl⟩
abbrev main_call9_v0 : Ref sig .tc := ⟨.hbm, 231, rfl⟩
abbrev main_v193 : Ref sig .tc := ⟨.hbm, 232, rfl⟩
abbrev main_v194 : Ref sig .tc := ⟨.hbm, 233, rfl⟩
abbrev main_v195 : Ref sig .tc := ⟨.hbm, 234, rfl⟩
abbrev main_v196 : Ref sig .tc := ⟨.hbm, 235, rfl⟩
abbrev main_v197 : Ref sig .tc := ⟨.hbm, 236, rfl⟩
abbrev main_v198 : Ref sig .tc := ⟨.hbm, 237, rfl⟩

abbrev nD : Nat := 1
abbrev τ : Topo := Topo.v7x

variable {F : FTy → Type} [FloatOps F]
-- ==== Proof.IdealScan.lean ====
/-
  The first kernel region of `KernelIdeal`: the running maximum and minimum of the delta-coded image.

  The region walks the image in eight slabs of 64 rows. At the first slab it stores the slab's maximum and minimum into
  two one-word outputs; at every later slab it replaces each word by the maximum (minimum) of the word and the slab's.
  This module states what the body does at one slab (`run_first`, `run_next`), what the two words hold after each slab
  (`maxAt`, `minAt`), and the pipeline's proof data with its body obligation, all over an arbitrary valuation `W` of
  the buffers when the region is entered.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.TableIdle
public import Idealize.ShloMosaic.Lib.Ring
public import Idealize.ShloMosaic.Lib.Tactic
public import Idealize.ShloMosaic.Lib.WordCmp
public import Idealize.ShloMosaic.Lib.Pipeline.Value

@[expose] public section

set_option maxRecDepth 16384

noncomputable section

namespace Cert.KernelIdeal.Scan

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Which points take which branch -/

/-- The body stores the slab's own extremes exactly at the first point. -/
theorem first_iff (t : Fin cfg0.N) : k0_cond1 (grid0.coords t) = 1#1 ↔ t.val = 0 :=
  (by decide +kernel : ∀ t : Fin grid0.N, k0_cond1 (grid0.coords t) = 1#1 ↔ t.val = 0) t

/-- The body combines with the words already there exactly at the later points. -/
theorem next_iff (t : Fin cfg0.N) : k0_cond2 (grid0.coords t) = 1#1 ↔ t.val ≠ 0 :=
  (by decide +kernel : ∀ t : Fin grid0.N, k0_cond2 (grid0.coords t) = 1#1 ↔ t.val ≠ 0) t

/-- No window is idle at any point: the input never is, and one of the two branches is always taken. -/
theorem live (w : Fin cfg0.W) (t : Fin cfg0.N) : cfg0.idle w (grid0.coords t) = false :=
  (by decide +kernel : ∀ (w : Fin 3) (t : Fin grid0.N), idle0 w (grid0.coords t) = false) w t

/-! ## The body at one point -/

theorem off2 : (![0, 0] : Fin 2 → Nat) = fun _ => 0 := funext fun a => by fin_cases a <;> rfl
theorem off3 : (![0, 0, 0] : Fin 3 → Nat) = fun _ => 0 := funext fun a => by fin_cases a <;> rfl

/-- The one position of a one-word buffer. -/
abbrev z : S1x1.Idx := fun a => ⟨0, by fin_cases a <;> decide⟩

theorem eq_z (y : S1x1.Idx) : y = z := by
  funext a
  apply Fin.ext
  have h := (y a).isLt
  fin_cases a
  · exact Nat.lt_one_iff.mp h
  · exact Nat.lt_one_iff.mp h

set_option maxHeartbeats 1000000 in
/-- At the first slab `x` the body leaves the slab's maximum in the first word and its minimum in the second. -/
theorem run_first (c : Dev nD) (i : grid0.Coords) (arg1 : Memref sig .tc .vmem S32x64x512 .f32) (harg1 : arg1.IsWhole)
    (arg2 : Memref sig .tc .smem S1x1 .f32) (harg2 : arg2.IsWhole) (arg3 : Memref sig .tc .smem S1x1 .f32) (harg3 : arg3.IsWhole)
    (hc0 : k0_cond1 i = 1#1) (hc1 : ¬k0_cond2 i = 1#1) (x : Vec F S32x64x512 .f32) (E : Set ℕ) (K : PUnit → sProp 𝕄) :
    iprop(owns (c : Thread nD τ) arg1 fullShare x ∗ (∃ d, owns (c : Thread nD τ) arg2 fullShare d) ∗ (∃ d, owns (c : Thread nD τ) arg3 fullShare d)
        ∗ (iprop(owns (c : Thread nD τ) arg1 fullShare x ∗ owns (c : Thread nD τ) arg2 fullShare (fun _ => k0_pay2 x)
            ∗ owns (c : Thread nD τ) arg3 fullShare (fun _ => k0_pay3 x)) -∗ K ⟨⟩))
      ⊢ wp frame (wpE (defs₀ (F := F)) Variants.none c none) E (cc0__minmax_body i arg1 harg1 arg2 harg2 arg3 harg3) K := by
  simp only [cc0__minmax_body_eq_skeleton]; unfold cc0__minmax_body_skel
  unfold owns
  iintro ⟨⟨%f0, %hf0, H0⟩, ⟨%d1, %f1, -, H1⟩, ⟨%d2, %f2, -, H2⟩, Hk⟩
  obtain rfl := harg1.eq_unread hf0
  sl_exec (disch := first | sl_exact hc0 | sl_exact hc1)
  sl_step
  iapply Hk
  isplitl [H0]
  · iexists _; isplitr; · ipureintro; exact harg1.read_unread _
    iexact H0
  isplitl [H1]
  · iexists _; isplitr
    swap; · iexact H1
    ipureintro
    refine (View.read_writes_eq_canon _ _ _ (View.cover_of_tiledL _ S1x1.size (by sl_kernel_rfl))).trans ?_
    rw [View.canon_unit_zero off2]
    simp only [View.readAt_eq_ld, harg1.read_unread, View.ld_unit_zero (S := S32x64x512) off3]
    rfl
  iexists _; isplitr
  swap; · iexact H2
  ipureintro
  refine (View.read_writes_eq_canon _ _ _ (View.cover_of_tiledL _ S1x1.size (by sl_kernel_rfl))).trans ?_
  rw [View.canon_unit_zero off2]
  simp only [View.readAt_eq_ld, harg1.read_unread, View.ld_unit_zero (S := S32x64x512) off3]
  rfl

set_option maxHeartbeats 1000000 in
/-- At a later slab `x`, over words `p` and `q`, the body leaves the maximum of `p` and the slab's maximum in the first
    word and the minimum of `q` and the slab's minimum in the second. -/
theorem run_next (c : Dev nD) (i : grid0.Coords) (arg1 : Memref sig .tc .vmem S32x64x512 .f32) (harg1 : arg1.IsWhole)
    (arg2 : Memref sig .tc .smem S1x1 .f32) (harg2 : arg2.IsWhole) (arg3 : Memref sig .tc .smem S1x1 .f32) (harg3 : arg3.IsWhole)
    (hc0 : ¬k0_cond1 i = 1#1) (hc1 : k0_cond2 i = 1#1) (x : Vec F S32x64x512 .f32) (p q : Vec F S1x1 .f32) (E : Set ℕ) (K : PUnit → sProp 𝕄) :
    iprop(owns (c : Thread nD τ) arg1 fullShare x ∗ owns (c : Thread nD τ) arg2 fullShare p ∗ owns (c : Thread nD τ) arg3 fullShare q
        ∗ (iprop(owns (c : Thread nD τ) arg1 fullShare x ∗ owns (c : Thread nD τ) arg2 fullShare (fun _ => k0_pay4 x (p z))
            ∗ owns (c : Thread nD τ) arg3 fullShare (fun _ => k0_pay5 x (q z))) -∗ K ⟨⟩))
      ⊢ wp frame (wpE (defs₀ (F := F)) Variants.none c none) E (cc0__minmax_body i arg1 harg1 arg2 harg2 arg3 harg3) K := by
  simp only [cc0__minmax_body_eq_skeleton]; unfold cc0__minmax_body_skel
  unfold owns
  iintro ⟨⟨%f0, %hf0, H0⟩, ⟨%f1, %hf1, H1⟩, ⟨%f2, %hf2, H2⟩, Hk⟩
  obtain rfl := harg1.eq_unread hf0; obtain rfl := harg2.eq_unread hf1; obtain rfl := harg3.eq_unread hf2
  sl_exec (disch := first | sl_exact hc0 | sl_exact hc1)
  sl_step
  iapply Hk
  isplitl [H0]
  · iexists _; isplitr; · ipureintro; exact harg1.read_unread _
    iexact H0
  isplitl [H1]
  · iexists _; isplitr
    swap; · iexact H1
    ipureintro
    refine (View.read_writes_eq_canon _ _ _ (View.cover_of_tiledL _ S1x1.size (by sl_kernel_rfl))).trans ?_
    rw [View.canon_unit_zero off2]
    sl_unfold_words
    simp only [View.readAt_eq_ld, harg1.read_unread, harg2.read_unread, View.ld_unit_zero (S := S32x64x512) off3]
    exact funext fun _ => congrArg (k0_pay4 x ·) (congrArg p (eq_z _))
  iexists _; isplitr
  swap; · iexact H2
  ipureintro
  refine (View.read_writes_eq_canon _ _ _ (View.cover_of_tiledL _ S1x1.size (by sl_kernel_rfl))).trans ?_
  rw [View.canon_unit_zero off2]
  sl_unfold_words
  simp only [View.readAt_eq_ld, harg1.read_unread, harg3.read_unread, View.ld_unit_zero (S := S32x64x512) off3]
  exact funext fun _ => congrArg (k0_pay5 x ·) (congrArg q (eq_z _))

/-! ## What the two words hold after each slab -/

variable (W : Dev nD → Valuation τ sig (Elt F))

/-- Window `w`'s block at point `t`, read off its array as the region finds it. -/
def blk (c : Dev nD) (w : Fin cfg0.W) (t : Fin cfg0.N) : ((cfg0.win w).xblock (cfg0.grid.coords t)).Idx → Elt F (cfg0.win w).elt :=
  ((cfg0.win w).blk t).view.read (Elt F) (W c (Proc.devRef .tc (Pipeline.arrRef spec0 w)))

/-- The slab of the image the body sees at point `t`. -/
abbrev slab (c : Dev nD) (t : Fin cfg0.N) : Vec F S32x64x512 .f32 := blk W c 0 t

/-- The first word after point `n`: the running maximum. -/
def maxAt (c : Dev nD) : (n : ℕ) → n < cfg0.N → F .f32
  | 0, h => k0_pay2 (slab W c ⟨0, h⟩)
  | n + 1, h => k0_pay4 (slab W c ⟨n + 1, h⟩) (maxAt c n (Nat.lt_of_succ_lt h))

/-- The second word after point `n`: the running minimum. -/
def minAt (c : Dev nD) : (n : ℕ) → n < cfg0.N → F .f32
  | 0, h => k0_pay3 (slab W c ⟨0, h⟩)
  | n + 1, h => k0_pay5 (slab W c ⟨n + 1, h⟩) (minAt c n (Nat.lt_of_succ_lt h))

theorem prev_lt (t : Fin cfg0.N) : t.val - 1 < cfg0.N := Nat.lt_of_le_of_lt (Nat.sub_le _ _) t.isLt

theorem maxAt_next (c : Dev nD) (t : Fin cfg0.N) (h : t.val ≠ 0) :
    maxAt W c t.val t.isLt = k0_pay4 (slab W c t) (maxAt W c (t.val - 1) (prev_lt t)) := by
  obtain ⟨n, hn⟩ := t
  cases n with
  | zero => exact absurd rfl h
  | succ n => rfl

theorem minAt_next (c : Dev nD) (t : Fin cfg0.N) (h : t.val ≠ 0) :
    minAt W c t.val t.isLt = k0_pay5 (slab W c t) (minAt W c (t.val - 1) (prev_lt t)) := by
  obtain ⟨n, hn⟩ := t
  cases n with
  | zero => exact absurd rfl h
  | succ n => rfl

theorem maxAt_first (c : Dev nD) (t : Fin cfg0.N) (h : t.val = 0) : maxAt W c t.val t.isLt = k0_pay2 (slab W c t) := by
  obtain ⟨n, hn⟩ := t
  subst h
  rfl

theorem minAt_first (c : Dev nD) (t : Fin cfg0.N) (h : t.val = 0) : minAt W c t.val t.isLt = k0_pay3 (slab W c t) := by
  obtain ⟨n, hn⟩ := t
  subst h
  rfl

/-! ## The pipeline's proof data and the body obligation -/

/-- The proof data on core `c`: the arrays as the region finds them; after the body at point `t` the input's buffer at
    its block and the two words at the running extremes; the buffers no window stages ride along; nothing is owed. -/
def dat (c : Dev nD) : Dat τ (Elt F) Unit ℕ (UR sig nD τ) ℕ cfg0 c where
  A w := W c (Proc.devRef .tc (Pipeline.arrRef spec0 w))
  after w t := match w with
    | ⟨0, _⟩ => blk W c 0 t
    | ⟨1, _⟩ => fun _ => maxAt W c t.val t.isLt
    | ⟨2, _⟩ => fun _ => minAt W c t.val t.isLt
  Φ _ := Pipeline.scopedRest spec0 c
  q _ := fullShare
  owed _ := 0

theorem A_eq (c : Dev nD) (w : Fin cfg0.W) : (dat W c).A w = W c (Proc.devRef .tc (Pipeline.arrRef spec0 w)) := by
  dsimp only [dat]
theorem after_0 (c : Dev nD) (t : Fin cfg0.N) : (dat W c).after 0 t = blk W c 0 t := by dsimp only [dat]
theorem after_1 (c : Dev nD) (t : Fin cfg0.N) : (dat W c).after 1 t = fun _ => maxAt W c t.val t.isLt := by dsimp only [dat]
theorem after_2 (c : Dev nD) (t : Fin cfg0.N) : (dat W c).after 2 t = fun _ => minAt W c t.val t.isLt := by dsimp only [dat]

/-- The input's staging buffer holds its block at every point. -/
theorem before_0 (c : Dev nD) (t : Fin cfg0.N) (d) : (dat W c).before 0 t d = blk W c 0 t :=
  ((dat W c).before_in_eq_fetched 0 rfl (fun _ => rfl) (fun _ _ _ => rfl)
      (fun t => by rw [after_0]; unfold Dat.blockOf blk; rw [A_eq]; try rfl) t d).trans
    (by unfold Dat.fetched Dat.blockOf blk; rw [A_eq]; try rfl)

/-- Whether an output word is fresh at a position: at the entry and after the one write-back. -/
def freshAt : ℕ → Bool
  | 0 => true
  | n + 1 => decide (n = 7)
theorem freshAt_step_1 : ∀ t : Fin cfg0.N,
    freshAt (t.val + 1) = ((cfg0.win 1).flush t || (cfg0.idle 1 (cfg0.grid.coords t) && freshAt t.val)) := by decide +kernel
theorem freshAt_step_2 : ∀ t : Fin cfg0.N,
    freshAt (t.val + 1) = ((cfg0.win 2).flush t || (cfg0.idle 2 (cfg0.grid.coords t) && freshAt t.val)) := by decide +kernel

theorem freshAt_false (t : Fin cfg0.N) (h : t.val ≠ 0) : freshAt t.val = false := by
  obtain ⟨n, hn⟩ := t
  have hN : n < 8 := lt_of_lt_of_eq hn (show cfg0.N = 8 from N_0)
  cases n with
  | zero => exact absurd rfl h
  | succ n => exact decide_eq_false (by omega)

/-- At a later point the first word's buffer holds what the point before left. -/
theorem before_1 (c : Dev nD) (t : Fin cfg0.N) (h : t.val ≠ 0) (d) :
    (dat W c).before 1 t d = fun _ => maxAt W c (t.val - 1) (prev_lt t) := by
  rw [Dat.before_out_traj _ 1 rfl (fun _ _ => rfl) (fun t _ hi _ => absurd ((live 1 t).symm.trans hi) Bool.false_ne_true) t.val t rfl d,
    if_neg (by rw [Pipeline.Cfg.fresh_tab cfg0 1 freshAt rfl freshAt_step_1 t.val (Nat.le_of_lt t.isLt), freshAt_false t h]; exact Bool.false_ne_true)]
  dsimp only [dat]

/-- At a later point the second word's buffer holds what the point before left. -/
theorem before_2 (c : Dev nD) (t : Fin cfg0.N) (h : t.val ≠ 0) (d) :
    (dat W c).before 2 t d = fun _ => minAt W c (t.val - 1) (prev_lt t) := by
  rw [Dat.before_out_traj _ 2 rfl (fun _ _ => rfl) (fun t _ hi _ => absurd ((live 2 t).symm.trans hi) Bool.false_ne_true) t.val t rfl d,
    if_neg (by rw [Pipeline.Cfg.fresh_tab cfg0 2 freshAt rfl freshAt_step_2 t.val (Nat.le_of_lt t.isLt), freshAt_false t h]; exact Bool.false_ne_true)]
  dsimp only [dat]

/-- What a window's buffer must hold when the body returns: every window is live, so the exact contents. -/
theorem leaves (c : Dev nD) (w : Fin cfg0.W) (t : Fin cfg0.N) :
    (dat W c).leavesExact w t = owns (c : Thread nD τ) ((cfg0.win w).stage (cfg0.slots t w)) fullShare ((dat W c).after w t) := by
  unfold Dat.leavesExact; rw [live w t]

/-- What the body is called with at point `t`, window by window. -/
def bodyPre (c : Dev nD) (t : Fin cfg0.N) : sProp 𝕄 :=
  iprop((dat W c).Φ t.castSucc ∗ (dat W c).owesAt () t.castSucc
    ∗ (∃ d, owns (c : Thread nD τ) (st0_0 t) fullShare ((dat W c).before 0 t d))
    ∗ (∃ d, owns (c : Thread nD τ) (st0_1 t) fullShare ((dat W c).before 1 t d))
    ∗ (∃ d, owns (c : Thread nD τ) (st0_2 t) fullShare ((dat W c).before 2 t d)))

/-- What the body returns at point `t`, window by window. -/
def bodyPost (c : Dev nD) (t : Fin cfg0.N) : sProp 𝕄 :=
  iprop((dat W c).Φ t.succ ∗ (dat W c).owesAt () t.succ
    ∗ (dat W c).leavesExact 0 t ∗ (dat W c).leavesExact 1 t ∗ (dat W c).leavesExact 2 t)

set_option maxHeartbeats 800000 in
/-- The body at any point, between the two. -/
theorem sound_body (c : Dev nD) (t : Fin cfg0.N) :
    bodyPre W c t ⊢ wp frame (wpE (defs₀ (F := F)) Variants.none c none) Set.univ (bodyAt0 t) (fun _ => bodyPost W c t) := by
  unfold bodyPre bodyPost bodyAt0
  simp only [before_0]
  rw [show (dat W c).Φ t.succ = (dat W c).Φ t.castSucc from rfl,
    show (dat W c).owesAt () t.succ = (dat W c).owesAt () t.castSucc from rfl,
    leaves W c 0 t, leaves W c 1 t, leaves W c 2 t, after_0, after_1, after_2]
  by_cases h0 : t.val = 0
  · rw [maxAt_first W c t h0, minAt_first W c t h0]
    iintro ⟨HΦ, Ho, ⟨%d0, H0⟩, ⟨%d1, H1⟩, ⟨%d2, H2⟩⟩
    iapply (run_first c (grid0.coords t) _ _ _ _ _ _ ((first_iff t).mpr h0) (fun h => (next_iff t).mp h h0) (slab W c t) Set.univ _)
    isplitl [H0]; · iexact H0
    isplitl [H1]; · iexists _; iexact H1
    isplitl [H2]; · iexists _; iexact H2
    iintro ⟨H0, H1, H2⟩
    isplitl [HΦ]; · iexact HΦ
    isplitl [Ho]; · iexact Ho
    isplitl [H0]; · iexact H0
    isplitl [H1]; · iexact H1
    iexact H2
  · rw [maxAt_next W c t h0, minAt_next W c t h0]
    simp only [before_1 W c t h0, before_2 W c t h0]
    iintro ⟨HΦ, Ho, ⟨%d0, H0⟩, ⟨%d1, H1⟩, ⟨%d2, H2⟩⟩
    iapply (run_next c (grid0.coords t) _ _ _ _ _ _ (fun h => h0 ((first_iff t).mp h)) ((next_iff t).mpr h0) (slab W c t)
      (fun _ => maxAt W c (t.val - 1) (prev_lt t)) (fun _ => minAt W c (t.val - 1) (prev_lt t)) Set.univ _)
    isplitl [H0]; · iexact H0
    isplitl [H1]; · iexact H1
    isplitl [H2]; · iexact H2
    iintro ⟨H0, H1, H2⟩
    isplitl [HΦ]; · iexact HΦ
    isplitl [Ho]; · iexact Ho
    isplitl [H0]; · iexact H0
    isplitl [H1]; · iexact H1
    iexact H2

/-- The body table's row at point `t` is the body as spelled above. -/
theorem defs_row (t : Fin cfg0.N) : defs₀ (F := F) .tc cfg0.body (cfg0.bodyArgs t (cfg0.slots t)) = bodyAt0 t := by
  unfold defs₀; rw [Defs.onTc_tc]

/-- The pipeline's body obligation, at every point. -/
theorem body_obligation (c : Dev nD) : BodyObligation (dat W c) (defs₀ (F := F)) Variants.none () Set.univ := fun t => by
  rw [bigSep_W0, bigSep_W0, defs_row]
  exact triple_restated (sound_body W c t) rfl .rfl fun _ => .rfl

end Cert.KernelIdeal.Scan

end
-- ==== Proof.IdealFit.lean ====
/-
  The second kernel region of `KernelIdeal`: the plane fit of one band of eight rows at each of 64 points.

  The region reads five scalars (minimum, scale, inverse scale, quantisation step, inverse step) and one band of the
  image, and writes the band of the result. This module states what the body leaves in the output band as one function of
  the scalars and the band (`fitOut`, the printed values in order), and gives the pipeline's proof data with its body
  obligation over an arbitrary valuation `W` of the buffers when the region is entered.
-/
module

public import proofs.«01_k».proof.Proof.IdealScan
public import Idealize.ShloMosaic.Lib.PointwiseCore

@[expose] public section

set_option maxRecDepth 16384

noncomputable section

namespace Cert.KernelIdeal.Fit

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body at one point -/

-- the run's term is large
set_option maxHeartbeats 1000000 in
/-- The pieces the body stores into the output band, found by running it: on the scalars `x0` and the band `x1` the
    body returns both inputs as they were and the output's buffer with the pieces written. -/
def run (c : Dev nD) (i : grid1.Coords) (arg1 : Memref sig .tc .smem S1x8 .f32) (harg1 : arg1.IsWhole)
    (arg2 : Memref sig .tc .vmem S32x8x512 .f32) (harg2 : arg2.IsWhole) (arg3 : Memref sig .tc .vmem S32x8x512 .f32) (harg3 : arg3.IsWhole)
    (x0 : Vec F S1x8 .f32) (x1 : Vec F S32x8x512 .f32) :
    { L : List (View.Piece (Elt F) S32x8x512 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d)
            ∗ (iprop(owns (c : Thread nD τ) arg1 fullShare x0 ∗ owns (c : Thread nD τ) arg2 fullShare x1
                ∗ (∃ f, arg3.view.loc (c : Thread nD τ) ↦[arg3.view.set]{fullShare} arg3.view.writes (Elt F) f L)) -∗ K ⟨⟩))
          ⊢ wp frame (wpE (defs₀ (F := F)) Variants.none c none) E (cc1__fit_body i arg1 harg1 arg2 harg2 arg3 harg3) K } := by
  refine ⟨?_, fun E K => ?run⟩
  case run =>
    simp only [cc1__fit_body_eq_skeleton]; unfold cc1__fit_body_skel
    simp only [k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton]
    unfold owns
    iintro ⟨⟨%f0, %hf0, H0⟩, ⟨%f1, %hf1, H1⟩, ⟨%d2, %f2, -, H2⟩, Hk⟩
    obtain rfl := harg1.eq_unread hf0; obtain rfl := harg2.eq_unread hf1
    sl_exec
    sl_step
    iapply Hk
    isplitl [H0]
    · iexists _; isplitr; · ipureintro; exact harg1.read_unread _
      iexact H0
    isplitl [H1]
    · iexists _; isplitr; · ipureintro; exact harg2.read_unread _
      iexact H1
    iexists _; iexact H2

/-- The pieces cover the output band. -/
theorem cover (c : Dev nD) (i : grid1.Coords) (arg1 : Memref sig .tc .smem S1x8 .f32) (harg1 : arg1.IsWhole)
    (arg2 : Memref sig .tc .vmem S32x8x512 .f32) (harg2 : arg2.IsWhole) (arg3 : Memref sig .tc .vmem S32x8x512 .f32) (harg3 : arg3.IsWhole)
    (x0 : Vec F S1x8 .f32) (x1 : Vec F S32x8x512 .f32) (y : S32x8x512.Idx) :
    ∃ pc ∈ (run c i arg1 harg1 arg2 harg2 arg3 harg3 x0 x1).1, y ∈ pc.1.set :=
  View.cover_of_tiledL (run c i arg1 harg1 arg2 harg2 arg3 harg3 x0 x1).1 S32x8x512.size (by sl_kernel_rfl) y

/-! ## The printed values in order, as functions of the five scalars and the band -/

section Values

variable (s0 s1 s2 s3 s4 : F .f32) (x : Vec F S32x8x512 .f32)

/-- The band one pixel to the left, with zeros entering. -/
def left : FVec F S32x8x512 .f32 := k1_pay3 x
/-- The quantised differences. -/
def quant : FVec F S32x8x512 .f32 := k1_pay4 s0 s1 s2 x
/-- The first base image of the band. -/
def base1 : FVec F S8x512 .f32 := k1_pay5 s0 s1 s2 x
/-- The second base image of the band. -/
def base2 : FVec F S8x512 .f32 := k1_pay6 s0 s1 s2 x
/-- The sign of the window length, which the printed floor division compares with. -/
def sgn8 : BitVec 32 := Scalar.subi (Scalar.extui (Scalar.cmpi .sgt (8#32) (0#32))) (Scalar.extui (Scalar.cmpi .slt (8#32) (0#32)))
/-- The indicator of a lane's window: it sums lanes into windows. -/
def gather : FVec F S512x64 .f32 :=
  k1_pay9 (iota .tc S512x64 32 [0] iota_S512x64_d0_w32) (iota .tc S512x64 32 [1] iota_S512x64_d1_w32) 8#32 k1_pay7 k1_pay8 sgn8
/-- The indicator the other way round: it expands windows to lanes. -/
def expand : FVec F S64x512 .f32 := k1_pay10
/-- The window sums of the images. -/
def sums3 : FVec F S32x64 .f32 :=
  k1_pay11 (quant s0 s1 s2 x) (iota .tc S512x64 32 [0] iota_S512x64_d0_w32) (iota .tc S512x64 32 [1] iota_S512x64_d1_w32) 8#32 k1_pay7 k1_pay8 sgn8
/-- The rows' sums of the images times the first base image. -/
def rows1 : FVec F S32x512 .f32 := k1_pay12 (quant s0 s1 s2 x) (base1 s0 s1 s2 x)
/-- The window sums of the images times the first base image. -/
def sums1 : FVec F S32x64 .f32 := k1_pay13 gather (rows1 s0 s1 s2 x)
/-- The window sums of the images times the second base image. -/
def sums2 : FVec F S32x64 .f32 := k1_pay14 (quant s0 s1 s2 x) (base2 s0 s1 s2 x) gather
/-- The window sums of the two base images and of their products. -/
def sum1 : FVec F S64 .f32 := k1_pay15 (sums3 s0 s1 s2 x)
def sum2 : FVec F S64 .f32 := k1_pay16 (sums3 s0 s1 s2 x)
def sum11 : FVec F S64 .f32 := k1_pay17 gather (rows1 s0 s1 s2 x)
def sum12 : FVec F S64 .f32 := k1_pay18 gather (rows1 s0 s1 s2 x)
def sum22 : FVec F S64 .f32 := k1_pay19 (quant s0 s1 s2 x) (base2 s0 s1 s2 x) gather
/-- Whether the determinant is zero, and the inverse of the determinant. -/
def sing : IVec S64 1 := k1_pay21 (quant s0 s1 s2 x) (base2 s0 s1 s2 x) gather (sums3 s0 s1 s2 x) (rows1 s0 s1 s2 x)
def idet : FVec F S64 .f32 := k1_pay22 (quant s0 s1 s2 x) (base2 s0 s1 s2 x) gather (sums3 s0 s1 s2 x) (rows1 s0 s1 s2 x)
/-- The six entries of the symmetric inverse (`minor01` is the numerator of the second). -/
def inv00 : FVec F S64 .f32 := k1_pay23 (quant s0 s1 s2 x) (base2 s0 s1 s2 x) gather (sums3 s0 s1 s2 x) (rows1 s0 s1 s2 x)
def minor01 : FVec F S64 .f32 := k1_pay24 gather (sums3 s0 s1 s2 x) (rows1 s0 s1 s2 x)
def inv01 : FVec F S64 .f32 := k1_pay25 (sing s0 s1 s2 x) (idet s0 s1 s2 x) (minor01 s0 s1 s2 x)
def inv02 : FVec F S64 .f32 := k1_pay26 (sum1 s0 s1 s2 x) (sum2 s0 s1 s2 x) (sum12 s0 s1 s2 x) (sum22 s0 s1 s2 x) (sing s0 s1 s2 x) (idet s0 s1 s2 x)
def inv11 : FVec F S64 .f32 := k1_pay27 (sum1 s0 s1 s2 x) (sum11 s0 s1 s2 x) (sing s0 s1 s2 x) (idet s0 s1 s2 x)
def inv12 : FVec F S64 .f32 := k1_pay28 (sum1 s0 s1 s2 x) (sum2 s0 s1 s2 x) (sum11 s0 s1 s2 x) (sum12 s0 s1 s2 x) (sing s0 s1 s2 x) (idet s0 s1 s2 x)
def inv22 : FVec F S64 .f32 := k1_pay29 (sum11 s0 s1 s2 x) (sum12 s0 s1 s2 x) (sum22 s0 s1 s2 x) (sing s0 s1 s2 x) (idet s0 s1 s2 x)
/-- The first coefficient of every image and window, half sanitised, and whether it is the upper infinity. -/
def coef0 : FVec F S32x64 .f32 :=
  k1_pay30 (sums3 s0 s1 s2 x) (sums1 s0 s1 s2 x) (sums2 s0 s1 s2 x) (sum1 s0 s1 s2 x) (sum2 s0 s1 s2 x) (sum12 s0 s1 s2 x) (sum22 s0 s1 s2 x)
    (sing s0 s1 s2 x) (idet s0 s1 s2 x) (inv00 s0 s1 s2 x) (minor01 s0 s1 s2 x)
def coef0up : IVec S32x64 1 :=
  k1_pay31 (sums3 s0 s1 s2 x) (sums1 s0 s1 s2 x) (sums2 s0 s1 s2 x) (sum1 s0 s1 s2 x) (sum2 s0 s1 s2 x) (sum12 s0 s1 s2 x) (sum22 s0 s1 s2 x)
    (sing s0 s1 s2 x) (idet s0 s1 s2 x) (inv00 s0 s1 s2 x) (minor01 s0 s1 s2 x)
/-- The third coefficient of every image and window. -/
def coef2 : FVec F S32x64 .f32 :=
  k1_pay33 (sums3 s0 s1 s2 x) (sums1 s0 s1 s2 x) (sums2 s0 s1 s2 x) (inv02 s0 s1 s2 x) (inv12 s0 s1 s2 x) (inv22 s0 s1 s2 x)
/-- The first coefficient and the second, expanded to lanes. -/
def lanes0 : FVec F S32x512 .f32 := k1_pay34 expand (coef0 s0 s1 s2 x) (coef0up s0 s1 s2 x) k1_pay32
def lanes1 : FVec F S32x512 .f32 :=
  k1_pay35 expand (sums3 s0 s1 s2 x) (sums1 s0 s1 s2 x) (sums2 s0 s1 s2 x) (inv01 s0 s1 s2 x) (inv11 s0 s1 s2 x) (inv12 s0 s1 s2 x)
/-- The fitted images, rounded to the step. -/
def fit : FVec F S32x8x512 .f32 :=
  k1_pay36 s3 s4 (base1 s0 s1 s2 x) (base2 s0 s1 s2 x) expand (coef2 s0 s1 s2 x) (lanes0 s0 s1 s2 x) (lanes1 s0 s1 s2 x) (constant S32x512 .f32 0x00000000#32)
/-- The loss of every image and window, expanded to lanes. -/
def loss : FVec F S32x512 .f32 :=
  k1_pay37 s3 s4 (quant s0 s1 s2 x) (base1 s0 s1 s2 x) (base2 s0 s1 s2 x) gather expand (coef2 s0 s1 s2 x) (lanes0 s0 s1 s2 x) (lanes1 s0 s1 s2 x)
    (constant S32x512 .f32 0x00000000#32)
/-- The divisor of the printed lane remainder. -/
def rem8 : BitVec 32 := Scalar.select (Scalar.cmpi .eq (8#32) (0#32)) 1#32 8#32
/-- The extremes of the two base images over each lane's window (the minimum of the second is taken at the end). -/
def max1 : FVec F S512 .f32 := k1_pay41 (k1_pay38 (base1 s0 s1 s2 x)) rem8 k1_pay39 k1_pay40
def min1 : FVec F S512 .f32 := k1_pay45 (k1_pay42 (base1 s0 s1 s2 x)) k1_pay43 k1_pay44
def max2 : FVec F S512 .f32 := k1_pay48 (k1_pay46 (base2 s0 s1 s2 x)) (k1_pay47 (base2 s0 s1 s2 x))
/-- What the body leaves in the output band. -/
def out : FVec F S32x8x512 .f32 :=
  k1_pay1 (left x) (quant s0 s1 s2 x) (fit s0 s1 s2 s3 s4 x) (loss s0 s1 s2 s3 s4 x) (max1 s0 s1 s2 x) (min1 s0 s1 s2 x) (max2 s0 s1 s2 x)
    (k1_pay49 (base2 s0 s1 s2 x)) (k1_pay50 (base2 s0 s1 s2 x)) (k1_pay51 (base2 s0 s1 s2 x))

end Values

/-- Scalar `j` of the eight. -/
def at8 (s : Vec F S1x8 .f32) (j : Fin 8) : F .f32 := s (ix2 0 j)

/-- The printed load of scalar `j` reads scalar `j`. -/
theorem ld_at (s : Vec F S1x8 .f32) (j : Fin 8) (off : Fin 2 → Nat) (h0 : off 0 = 0) (h1 : off 1 = j.val) (hin h) :
    View.ld s (Rect.unit (s := S1x8) off S1x1.size hin) (Shape.Idx.first h) = at8 s j := by
  show s ((Rect.unit (s := S1x8) off S1x1.size hin).toLoadRect.idx (Shape.Idx.first h)) = s (ix2 0 j)
  refine congrArg s (funext fun a => Fin.ext ?_)
  fin_cases a
  · exact (congrArg (· + _) h0).trans (by rfl)
  · exact (congrArg (· + _) h1).trans (by rfl)

set_option maxHeartbeats 1000000 in
/-- What the body leaves in the output band, read off its pieces. -/
theorem out_eq (c : Dev nD) (i : grid1.Coords) (arg1 : Memref sig .tc .smem S1x8 .f32) (harg1 : arg1.IsWhole)
    (arg2 : Memref sig .tc .vmem S32x8x512 .f32) (harg2 : arg2.IsWhole) (arg3 : Memref sig .tc .vmem S32x8x512 .f32) (harg3 : arg3.IsWhole)
    (x0 : Vec F S1x8 .f32) (x1 : Vec F S32x8x512 .f32) (f) :
    arg3.view.read (Elt F) (arg3.view.writes (Elt F) f (run c i arg1 harg1 arg2 harg2 arg3 harg3 x0 x1).1)
      = out (at8 x0 0) (at8 x0 1) (at8 x0 2) (at8 x0 3) (at8 x0 4) x1 := by
  rw [View.read_writes_eq_canon _ _ _ (cover c i arg1 harg1 arg2 harg2 arg3 harg3 x0 x1)]
  unfold run
  dsimp only
  rw [View.canon_unit_zero Scan.off3]
  sl_unfold_words
  simp only [View.readAt_eq_ld, harg1.read_unread, harg2.read_unread, View.ld_unit_zero (S := S32x8x512) Scan.off3]
  rw [← ld_at x0 0 ![0, 0] rfl rfl inb_S1x8_S1x1_0_0 (by decide), ← ld_at x0 1 ![0, 1] rfl rfl inb_S1x8_S1x1_0_1 (by decide),
    ← ld_at x0 2 ![0, 2] rfl rfl inb_S1x8_S1x1_0_2 (by decide), ← ld_at x0 3 ![0, 3] rfl rfl inb_S1x8_S1x1_0_3 (by decide),
    ← ld_at x0 4 ![0, 4] rfl rfl inb_S1x8_S1x1_0_4 (by decide)]
  rfl

/-! ## The pipeline's proof data and the body obligation -/

variable (W : Dev nD → Valuation τ sig (Elt F))

/-- Window `w`'s block at point `t`, read off its array as the region finds it. -/
def blk (c : Dev nD) (w : Fin cfg1.W) (t : Fin cfg1.N) : ((cfg1.win w).xblock (cfg1.grid.coords t)).Idx → Elt F (cfg1.win w).elt :=
  ((cfg1.win w).blk t).view.read (Elt F) (W c (Proc.devRef .tc (Pipeline.arrRef spec1 w)))

/-- The scalars the body sees at point `t`. -/
abbrev scal (c : Dev nD) (t : Fin cfg1.N) : Vec F S1x8 .f32 := blk W c 0 t
/-- The band of the image the body sees at point `t`. -/
abbrev band (c : Dev nD) (t : Fin cfg1.N) : Vec F S32x8x512 .f32 := blk W c 1 t

/-- The band the body leaves at point `t`. -/
def outAt (c : Dev nD) (t : Fin cfg1.N) : Vec F S32x8x512 .f32 :=
  out (at8 (scal W c t) 0) (at8 (scal W c t) 1) (at8 (scal W c t) 2) (at8 (scal W c t) 3) (at8 (scal W c t) 4) (band W c t)

/-- The proof data on core `c`: the arrays as the region finds them; after the body at point `t` the inputs' buffers at
    their blocks and the output's at the band the body leaves; the buffers no window stages ride along; nothing is owed. -/
def dat (c : Dev nD) : Dat τ (Elt F) Unit ℕ (UR sig nD τ) ℕ cfg1 c where
  A w := W c (Proc.devRef .tc (Pipeline.arrRef spec1 w))
  after w t := match w with
    | ⟨0, _⟩ => blk W c 0 t
    | ⟨1, _⟩ => blk W c 1 t
    | ⟨2, _⟩ => outAt W c t
  Φ _ := Pipeline.scopedRest spec1 c
  q _ := fullShare
  owed _ := 0

theorem A_eq (c : Dev nD) (w : Fin cfg1.W) : (dat W c).A w = W c (Proc.devRef .tc (Pipeline.arrRef spec1 w)) := by
  dsimp only [dat]
theorem after_0 (c : Dev nD) (t : Fin cfg1.N) : (dat W c).after 0 t = blk W c 0 t := by dsimp only [dat]
theorem after_1 (c : Dev nD) (t : Fin cfg1.N) : (dat W c).after 1 t = blk W c 1 t := by dsimp only [dat]
theorem after_2 (c : Dev nD) (t : Fin cfg1.N) : (dat W c).after 2 t = outAt W c t := by dsimp only [dat]

/-- The scalars' staging buffer holds its block at every point. -/
theorem before_0 (c : Dev nD) (t : Fin cfg1.N) (d) : (dat W c).before 0 t d = blk W c 0 t :=
  ((dat W c).before_in_eq_fetched 0 rfl (fun _ => rfl) (fun _ _ _ => rfl)
      (fun t => by rw [after_0]; unfold Dat.blockOf blk; rw [A_eq]; try rfl) t d).trans
    (by unfold Dat.fetched Dat.blockOf blk; rw [A_eq]; try rfl)

/-- The image's staging buffer holds its block at every point. -/
theorem before_1 (c : Dev nD) (t : Fin cfg1.N) (d) : (dat W c).before 1 t d = blk W c 1 t :=
  ((dat W c).before_in_eq_fetched 1 rfl (fun _ => rfl) (fun _ _ _ => rfl)
      (fun t => by rw [after_1]; unfold Dat.blockOf blk; rw [A_eq]; try rfl) t d).trans
    (by unfold Dat.fetched Dat.blockOf blk; rw [A_eq]; try rfl)

/-- No window is idle at any point. -/
theorem live : ∀ (w : Fin cfg1.W) (t : Fin cfg1.N), cfg1.idle w (cfg1.grid.coords t) = false := by decide +kernel

/-- What a window's buffer must hold when the body returns: every window is live, so the exact contents. -/
theorem leaves (c : Dev nD) (w : Fin cfg1.W) (t : Fin cfg1.N) :
    (dat W c).leavesExact w t = owns (c : Thread nD τ) ((cfg1.win w).stage (cfg1.slots t w)) fullShare ((dat W c).after w t) := by
  unfold Dat.leavesExact; rw [live w t]

/-- What the body is called with at point `t`, window by window. -/
def bodyPre (c : Dev nD) (t : Fin cfg1.N) : sProp 𝕄 :=
  iprop((dat W c).Φ t.castSucc ∗ (dat W c).owesAt () t.castSucc
    ∗ (∃ d, owns (c : Thread nD τ) (st1_0 t) fullShare ((dat W c).before 0 t d))
    ∗ (∃ d, owns (c : Thread nD τ) (st1_1 t) fullShare ((dat W c).before 1 t d))
    ∗ (∃ d, owns (c : Thread nD τ) (st1_2 t) fullShare ((dat W c).before 2 t d)))

/-- What the body returns at point `t`, window by window. -/
def bodyPost (c : Dev nD) (t : Fin cfg1.N) : sProp 𝕄 :=
  iprop((dat W c).Φ t.succ ∗ (dat W c).owesAt () t.succ
    ∗ (dat W c).leavesExact 0 t ∗ (dat W c).leavesExact 1 t ∗ (dat W c).leavesExact 2 t)

set_option maxHeartbeats 800000 in
/-- The body at any point, between the two. -/
theorem sound_body (c : Dev nD) (t : Fin cfg1.N) :
    bodyPre W c t ⊢ wp frame (wpE (defs₀ (F := F)) Variants.none c none) Set.univ (bodyAt1 t) (fun _ => bodyPost W c t) := by
  unfold bodyPre bodyPost bodyAt1
  simp only [before_0, before_1]
  rw [show (dat W c).Φ t.succ = (dat W c).Φ t.castSucc from rfl,
    show (dat W c).owesAt () t.succ = (dat W c).owesAt () t.castSucc from rfl,
    leaves W c 0 t, leaves W c 1 t, leaves W c 2 t, after_0, after_1, after_2]
  iintro ⟨HΦ, Ho, ⟨%d0, H0⟩, ⟨%d1, H1⟩, ⟨%d2, H2⟩⟩
  iapply ((run c (grid1.coords t) _ _ _ _ _ _ (scal W c t) (band W c t)).2 Set.univ _)
  isplitl [H0]; · iexact H0
  isplitl [H1]; · iexact H1
  isplitl [H2]; · iexists _; iexact H2
  iintro ⟨H0, H1, ⟨%f, H2⟩⟩
  isplitl [HΦ]; · iexact HΦ
  isplitl [Ho]; · iexact Ho
  isplitl [H0]; · iexact H0
  isplitl [H1]; · iexact H1
  unfold owns
  iexists _; isplitr
  swap; · iexact H2
  ipureintro
  exact out_eq c (grid1.coords t) _ _ _ _ _ _ (scal W c t) (band W c t) f

/-- The body table's row at point `t` is the body as spelled above. -/
theorem defs_row (t : Fin cfg1.N) : defs₀ (F := F) .tc cfg1.body (cfg1.bodyArgs t (cfg1.slots t)) = bodyAt1 t := by
  unfold defs₀; rw [Defs.onTc_tc]

/-- The pipeline's body obligation, at every point. -/
theorem body_obligation (c : Dev nD) : BodyObligation (dat W c) (defs₀ (F := F)) Variants.none () Set.univ := fun t => by
  rw [bigSep_W1, bigSep_W1, defs_row]
  exact triple_restated (sound_body W c t) rfl .rfl fun _ => .rfl

end Cert.KernelIdeal.Fit

end
-- ==== Proof.IdealRun.lean ====
/-
  The run of `KernelIdeal`: host operations, the scan for the extremes, host operations on the scalars, the plane fit, one
  last host operation. The buffers' contents between the items are five valuations (`W1` … `W5`) over the launch
  contents; every weakly fair execution terminates with the argument as launched, every semaphore counter at zero and the
  result at `W5`.
-/
module

public import proofs.«01_k».proof.Proof.IdealFit
public import proofs.«01_k».proof.Proof.Gen.KernelIdeal.Regions
public import Idealize.ShloMosaic.Lib.Pipeline.RegionArraysS

@[expose] public section

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents between the items -/

/-- At launch. -/
abbrev W0 (c : Dev nD) : Valuation τ sig (Elt F) := fun b => m (c, b)
/-- When the scan is entered. -/
abbrev W1 (c : Dev nD) : Valuation τ sig (Elt F) := StableHlo.after hostOps0 (W0 m c)
/-- When the scan is left. -/
abbrev W2 (c : Dev nD) : Valuation τ sig (Elt F) := Pipeline.afterRegion (Scan.dat (W1 m) c) (W1 m c)
/-- When the fit is entered. -/
abbrev W3 (c : Dev nD) : Valuation τ sig (Elt F) := StableHlo.after hostOps1 (W2 m c)
/-- When the fit is left. -/
abbrev W4 (c : Dev nD) : Valuation τ sig (Elt F) := Pipeline.afterRegion (Fit.dat (W3 m) c) (W3 m c)
/-- At the end. -/
abbrev W5 (c : Dev nD) : Valuation τ sig (Elt F) := StableHlo.after hostOps2 (W4 m c)

/-- Across the scan a buffer that is neither of its two outputs keeps its contents. -/
theorem W2_of (c : Dev nD) (r : Ref sig .tc) (h : ∀ w, Pipeline.arrRef spec0 w = r → (cfg0.win w).isOut = false) :
    W2 m c r = W1 m c r :=
  Pipeline.afterRegion_keeps (Scan.dat (W1 m) c) (W1 m c) launch0.win.arr_inj (fun w => Scan.A_eq (W1 m) c w) r h

/-- Across the fit a buffer that is not its output keeps its contents. -/
theorem W4_of (c : Dev nD) (r : Ref sig .tc) (h : ∀ w, Pipeline.arrRef spec1 w = r → (cfg1.win w).isOut = false) :
    W4 m c r = W3 m c r :=
  Pipeline.afterRegion_keeps (Fit.dat (W3 m) c) (W3 m c) launch1.win.arr_inj (fun w => Fit.A_eq (W3 m) c w) r h

/-- No item writes the argument. -/
theorem W5_arg0 (c : Dev nD) : W5 m c main_arg0 = m ((c : Thread nD τ).loc main_arg0) :=
  (StableHlo.after_of_writes_sub hostOps2 _ hostOps2_writes (by decide)).trans <| (W4_of m c main_arg0 (by decide)).trans <|
    (StableHlo.after_of_writes_sub hostOps1 _ hostOps1_writes (by decide)).trans <| (W2_of m c main_arg0 (by decide)).trans <|
      (StableHlo.after_of_writes_sub hostOps0 _ hostOps0_writes (by decide)).trans rfl

/-! ## The two regions and the list of items -/

/-- The regions' arrays are unscoped. -/
theorem arrs0 : Pipeline.arrRefs (τ := τ) spec0 ⊆ Pipeline.ucRefs τ sig := Pipeline.arrRefs_sub_ucRefs spec0 (by decide)
theorem arrs1 : Pipeline.arrRefs (τ := τ) spec1 ⊆ Pipeline.ucRefs τ sig := Pipeline.arrRefs_sub_ucRefs spec1 (by decide)

/-- The two regions' proof data. -/
abbrev pdats : (p : Fin 2) → (c : Dev nD) → Dat τ (Elt F) Unit ℕ (UR sig nD τ) ℕ (cfgs p) c := fun p => match p with
  | ⟨0, _⟩ => Scan.dat (W1 m)
  | ⟨1, _⟩ => Fit.dat (W3 m)

/-- Every wait's index is assigned on the TensorCores' cells, all at one level. -/
abbrev L : GSem nD τ sig → Finset Unit := fun g => if g.1.2 = .tc then {()} else ∅
abbrev lv : GSem nD τ sig → Unit → ℕ := fun _ _ => 0

theorem L_off (g : GSem nD τ sig) (h : g.1.2 ≠ .tc) : L g = ∅ := if_neg h

/-- What the core owes: nothing. -/
abbrev D : Dev nD → CellTallies nD τ sig Unit := fun _ => 0
/-- What rides beside the buffers. -/
abbrev R (c : Dev nD) : sProp 𝕄 := iprop((∃ Wd, owes (c : Thread nD τ) (0 : CellTallies nD τ sig Unit) Wd) ∗ emp ∗ emp)

/-- Between its ends a region's invariant is the buffers no window stages. -/
theorem rest_in {P Q : sProp 𝕄} (h : Q = P) : iprop(P ∗ emp) ⊢ Q := by
  subst h
  iintro ⟨H, -⟩; iexact H
theorem rest_out {P Q : sProp 𝕄} (h : Q = P) : Q ⊢ iprop(P ∗ emp) := by
  subst h
  iintro H
  isplitl [H]; · iexact H
  iempintro

-- the records' arguments are found by unification, which takes unfolding plain definitions in a metavariable's type
set_option backward.isDefEq.respectTransparency.types false in
/-- The scan as a segment. -/
def reg0 : RegionSeg (pcfgs (F := F)) adm (pdats m) () defs₀ Variants.none L lv 0 :=
  RegionSeg.ofHeldIn (pcfgs (F := F)) adm (pdats m) () defs₀ Variants.none L lv 0 D (Pipeline.ucRefs τ sig) (fun _ => iprop(emp)) (fun _ => iprop(emp))
    launch0.toP rfl (fun c => (Scan.body_obligation (W1 m) c).loose) (fun _ _ => rfl) (fun _ => rfl)
    (fun c => (Scan.dat (W1 m) c).share_full fun _ => rfl)
    (fun c => rest_in (by rfl)) (fun c => rest_out (by rfl))
    (fun _ => 0) ⟨fun _ _ _ => by simp [L], fun _ _ _ => le_rfl, fun _ _ _ h => absurd h (by simp [D])⟩ (fun _ => iprop(emp)) (W1 m)
    (fun c w => Scan.A_eq (W1 m) c w)

set_option backward.isDefEq.respectTransparency.types false in
/-- The fit as a segment. -/
def reg1 : RegionSeg (pcfgs (F := F)) adm (pdats m) () defs₀ Variants.none L lv 1 :=
  RegionSeg.ofHeldIn (pcfgs (F := F)) adm (pdats m) () defs₀ Variants.none L lv 1 D (Pipeline.ucRefs τ sig) (fun _ => iprop(emp)) (fun _ => iprop(emp))
    launch1.toP rfl (fun c => (Fit.body_obligation (W3 m) c).loose) (fun _ _ => rfl) (fun _ => rfl)
    (fun c => (Fit.dat (W3 m) c).share_full fun _ => rfl)
    (fun c => rest_in (by rfl)) (fun c => rest_out (by rfl))
    (fun _ => 0) ⟨fun _ _ _ => by simp [L], fun _ _ _ => le_rfl, fun _ _ _ h => absurd h (by simp [D])⟩ (fun _ => iprop(emp)) (W3 m)
    (fun c w => Fit.A_eq (W3 m) c w)

set_option backward.isDefEq.respectTransparency.types false in
/-- Entered from every unscoped buffer at the valuation before, left with them at the valuation after. -/
theorem reg0_pre (c : Dev nD) : iprop(StableHlo.held (c : Thread nD τ) (Pipeline.ucRefs τ sig) (W1 m c) ∗ R c) ⊢ (reg0 m).pre c :=
  RegionSeg.ofHeldIn_pre (pcs := pcfgs (F := F)) (a := adm) (pdats := pdats m) (ι := ()) (defs₀ := defs₀) (𝒱₀ := Variants.none) (L := L) (lv := lv) (p := 0) (D := D)
    (S := Pipeline.ucRefs τ sig) arrs0 (X := fun _ => iprop(emp)) (Y := fun _ => iprop(emp)) (R := fun _ => iprop(emp)) (W := W1 m) c
set_option backward.isDefEq.respectTransparency.types false in
theorem reg0_post (c : Dev nD) : (reg0 m).post c ⊢ iprop(StableHlo.held (c : Thread nD τ) (Pipeline.ucRefs τ sig) (W2 m c) ∗ R c) :=
  RegionSeg.ofHeldIn_post (pcs := pcfgs (F := F)) (a := adm) (pdats := pdats m) (ι := ()) (defs₀ := defs₀) (𝒱₀ := Variants.none) (L := L) (lv := lv) (p := 0) (D := D)
    (S := Pipeline.ucRefs τ sig) arrs0 (X := fun _ => iprop(emp)) (Y := fun _ => iprop(emp)) (R := fun _ => iprop(emp)) (W := W1 m) c
set_option backward.isDefEq.respectTransparency.types false in
theorem reg1_pre (c : Dev nD) : iprop(StableHlo.held (c : Thread nD τ) (Pipeline.ucRefs τ sig) (W3 m c) ∗ R c) ⊢ (reg1 m).pre c :=
  RegionSeg.ofHeldIn_pre (pcs := pcfgs (F := F)) (a := adm) (pdats := pdats m) (ι := ()) (defs₀ := defs₀) (𝒱₀ := Variants.none) (L := L) (lv := lv) (p := 1) (D := D)
    (S := Pipeline.ucRefs τ sig) arrs1 (X := fun _ => iprop(emp)) (Y := fun _ => iprop(emp)) (R := fun _ => iprop(emp)) (W := W3 m) c
set_option backward.isDefEq.respectTransparency.types false in
theorem reg1_post (c : Dev nD) : (reg1 m).post c ⊢ iprop(StableHlo.held (c : Thread nD τ) (Pipeline.ucRefs τ sig) (W4 m c) ∗ R c) :=
  RegionSeg.ofHeldIn_post (pcs := pcfgs (F := F)) (a := adm) (pdats := pdats m) (ι := ()) (defs₀ := defs₀) (𝒱₀ := Variants.none) (L := L) (lv := lv) (p := 1) (D := D)
    (S := Pipeline.ucRefs τ sig) arrs1 (X := fun _ => iprop(emp)) (Y := fun _ => iprop(emp)) (R := fun _ => iprop(emp)) (W := W3 m) c

/-- The three host stretches as segments. -/
def host0 : HostSeg (Ix := Unit) (Name := ℕ) (U := UR sig nD τ) (Lvl := ℕ) (pcfgs (F := F)) defs₀ Variants.none L lv :=
  HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (W0 m) R
def host1 : HostSeg (Ix := Unit) (Name := ℕ) (U := UR sig nD τ) (Lvl := ℕ) (pcfgs (F := F)) defs₀ Variants.none L lv :=
  HostSeg.ofOps _ _ _ _ _ (Pipeline.ucRefs τ sig) hostOps1
    (fun op h => Pipeline.sub_ucRefs op ((List.forall_iff_forall_mem.mp hostOps1_sub) op h))
    (fun op h => (List.forall_iff_forall_mem.mp hostOps1_fresh) op h) (W2 m) R
def host2 : HostSeg (Ix := Unit) (Name := ℕ) (U := UR sig nD τ) (Lvl := ℕ) (pcfgs (F := F)) defs₀ Variants.none L lv :=
  HostSeg.ofOps _ _ _ _ _ (Pipeline.ucRefs τ sig) hostOps2
    (fun op h => Pipeline.sub_ucRefs op ((List.forall_iff_forall_mem.mp hostOps2_sub) op h))
    (fun op h => (List.forall_iff_forall_mem.mp hostOps2_fresh) op h) (W4 m) R

/-- @main as the list of its items. -/
abbrev segs : List (Seg (pcfgs (F := F)) adm (pdats m) () defs₀ Variants.none L lv) :=
  [.host (host0 m), .region (reg0 m), .host (host1 m), .region (reg1 m), .host (host2 m)]

/-- An unscoped buffer of the TensorCore is among those held. -/
theorem mem_uc (r : Ref sig .tc) (h : r.isScoped = false) : Proc.devRef .tc r ∈ Pipeline.ucRefs τ sig :=
  Finset.mem_filter.mpr ⟨StableHlo.devRef_mem_tcRefs r, fun h' => Bool.false_ne_true (h.symm.trans h')⟩

/-- What a final state must satisfy on core `c`. -/
def Ends (c : Dev nD) (s : MemSt nD τ sig (Elt F)) : Prop :=
  s.mem ((c.tc : Thread nD τ).loc main_arg0) = m ((c.tc : Thread nD τ).loc main_arg0)
    ∧ s.mem ((c.tc : Thread nD τ).loc main_v0) = W5 m c main_v0

set_option backward.isDefEq.respectTransparency.types false in
/-- From any memory with zero counters every weakly fair execution of @main terminates, and every final state has the
    argument as launched, the result at the last valuation, and every semaphore counter at zero. -/
theorem run : θ_run defs (onTc (τ := τ) (main (F := F))) ⟨m, fun _ => 0, ρ⟩ (fun r => (∀ c : Dev nD, Ends m c r.2) ∧ r.2.sem = fun _ => 0) := by
  refine Pipeline.θ_run_regions_kit_sems (pcfgs (F := F)) adm (pdats m) () cellOf_inj emb₁ defs₀ Variants.none L lv m ρ main (segs m)
    (fun c Q => by rw [main_segs adm (pdats m) () Variants.none L lv (host0 m) (host1 m) (host2 m) (reg0 m) (reg1 m) rfl rfl rfl c])
    (by simp only [Seg.pipes_host, Seg.pipes_region, Seg.pipes_nil]; decide) (O₀ := 0) (hL := L_off) (G := fun _ => iprop(emp))
    (u₀ := initOf (Pipeline.cells cfgs cellOf_inj) (Pipeline.launchToks cfgs cellOf_inj)) (hu₀ := ?_)
    (T₀ := fun c => iprop(StableHlo.held (c : Thread nD τ) (Pipeline.ucRefs τ sig) (W0 m c) ∗ R c))
    (Tₙ := fun c => StableHlo.held (c : Thread nD τ) (Pipeline.ucRefs τ sig) (W5 m c))
    (hch := ⟨fun _ => .rfl, reg0_pre m, reg0_post m, reg1_pre m, reg1_post m, fun c => ?_⟩)
    (hinit := ?_) (QY := Ends m) (hfin := fun c s' => ?_)
    (hQ := fun _ h hz => ⟨h, funext fun g => hz g (.inr (regions_no_unscoped g.2))⟩)
  · iintro Hu; imodintro
    isplitl [Hu]
    · iapply (show (ownU _ : sProp 𝕄) ⊢ BI.own (emb₁ (initOf (Pipeline.cells cfgs cellOf_inj) (Pipeline.launchToks cfgs cellOf_inj))) from .rfl)
      iexact Hu
    iapply (show (BI.emp : sProp 𝕄) ⊢ bigSep Finset.univ (fun _ : Dev nD => (BI.emp : sProp 𝕄)) from by rw [BI.bigSep_emp_const])
    iempintro
  · show iprop(StableHlo.held (c : Thread nD τ) (Pipeline.ucRefs τ sig) (W5 m c) ∗ R c) ⊢ (_ : sProp 𝕄)
    iintro ⟨Hh, HO, -⟩
    isplitl [Hh] <;> iassumption
  · refine Pipeline.initEach L lv fun c => ?_
    rw [show unscopedBufs c (fun b => m ((c : Thread nD τ).loc b)) = StableHlo.held (c : Thread nD τ) (Pipeline.ucRefs τ sig) (W0 m c)
      from Pipeline.unscopedBufs_held (Ix := Unit) (Name := ℕ) (U := UR sig nD τ) (Lvl := ℕ) c (W0 m c)]
    iintro ⟨⟨Hh, -, HO, -, -, -⟩, -⟩
    imodintro
    isplitl [Hh]; · iexact Hh
    isplitl [HO]; · iexists ∅; iexact HO
    isplitl [] <;> iempintro
  · unfold StableHlo.held
    iintro ⟨Hh, HSI⟩
    ihave Hr := (pointsTo_read_all (Pipeline.ucRefs τ sig) (fun b => ((c : Thread nD τ).1, b)) (W5 m c) s') $$ [Hh HSI]
    · isplitl [Hh] <;> iassumption
    icases Hr with ⟨%h, HSI⟩
    imodintro
    isplitr
    · ipureintro
      exact ⟨(h (Proc.devRef .tc main_arg0) (mem_uc main_arg0 (by decide))).trans (W5_arg0 m c),
        h (Proc.devRef .tc main_v0) (mem_uc main_v0 (by decide))⟩
    · iexact HSI

end Cert.KernelIdeal.Run

end
-- ==== Proof.Model.lean ====
/-
  The plane fit of one window, as functions of the extended reals, in the two ways the programs write it.

  A window is `w n i l`: image `n`, row `i` and lane `l` of the window. Images 0 and 1 are the base images. `K` is the
  kernel's way (window sums, the symmetric inverse by cofactors, one coefficient per image and base); `R` is the
  reference's way (products with the 3 by 64 base matrix, the inverse by elimination). `Plane` holds what both share.
-/
module

public import Idealize.ShloMosaic.Lib.Pointwise

@[expose] public section

noncomputable section

namespace Cert

open Idealize.ShloMosaic

/-- A window's values: image, row, lane. -/
abbrev Win := Fin 32 → Fin 8 → Fin 8 → EReal

namespace Plane

/-- Rounding to the nearest integer, ties to even. -/
def rne (x : EReal) : EReal := Ideal.liftRound Ideal.roundHalfEven x
/-- Rounding written as `x + (round x - x)`. -/
def ste (x : EReal) : EReal := x + (rne x - x)
/-- The printed threshold of a constant window. -/
def flat : EReal := Ideal.ofBits .f32 0x358637BD#32
/-- The constant two. -/
def two : EReal := Ideal.ofBits .f32 0x40000000#32
/-- The largest and the smallest value of image `n` of a window. -/
def top (w : Win) (n : Fin 32) : EReal := ⨆ i, ⨆ l, w n i l
def bot (w : Win) (n : Fin 32) : EReal := ⨅ i, ⨅ l, w n i l
/-- Whether both base images are constant on the window. -/
def isFlat (w : Win) : Prop := top w 0 - bot w 0 < flat ∧ top w 1 - bot w 1 < flat

end Plane

namespace K
open Plane

/-- The window sums of an image times base image 0, times base image 1, and of the image alone. -/
def b1 (w : Win) (n : Fin 32) : EReal := ∑ l, ∑ i, w n i l * w 0 i l
def b2 (w : Win) (n : Fin 32) : EReal := ∑ l, ∑ i, w n i l * w 1 i l
def b3 (w : Win) (n : Fin 32) : EReal := ∑ l, ∑ i, w n i l
/-- The number of points of a window, as printed. -/
def npt : EReal := Ideal.ofBits .f32 0x42800000#32
/-- The determinant of the symmetric matrix of window sums. -/
def det (w : Win) : EReal :=
  b1 w 0 * (b2 w 1 * npt - b3 w 1 * b3 w 1) - b1 w 1 * (b1 w 1 * npt - b3 w 1 * b3 w 0)
    + b3 w 0 * (b1 w 1 * b3 w 1 - b2 w 1 * b3 w 0)
open Classical in
/-- The inverse of the determinant (of one where it is zero). -/
def idet (w : Win) : EReal := Ideal.div 1 (if det w = 0 then 1 else det w)
open Classical in
/-- The six entries of the inverse: a cofactor times the inverse of the determinant, or the identity's entry. -/
def i00 (w : Win) : EReal := if det w = 0 then 1 else (b2 w 1 * npt - b3 w 1 * b3 w 1) * idet w
open Classical in
def i01 (w : Win) : EReal := if det w = 0 then 0 else (b3 w 0 * b3 w 1 - b1 w 1 * npt) * idet w
open Classical in
def i02 (w : Win) : EReal := if det w = 0 then 0 else (b1 w 1 * b3 w 1 - b2 w 1 * b3 w 0) * idet w
open Classical in
def i11 (w : Win) : EReal := if det w = 0 then 1 else (b1 w 0 * npt - b3 w 0 * b3 w 0) * idet w
open Classical in
def i12 (w : Win) : EReal := if det w = 0 then 0 else (b1 w 1 * b3 w 0 - b1 w 0 * b3 w 1) * idet w
open Classical in
def i22 (w : Win) : EReal := if det w = 0 then 1 else (b1 w 0 * b2 w 1 - b1 w 1 * b1 w 1) * idet w
/-- The printed large constants. -/
def big : EReal := Ideal.ofBits .f32 0x58635FA9#32
def nbig : EReal := Ideal.ofBits .f32 0xD8635FA9#32
/-- The upper infinity replaced by a large constant (no value is unequal to itself). -/
def sanUp (c : EReal) : EReal :=
  if (if c ≠ c then big else c) = Ideal.ofBits .f32 0x7F800000#32 then big else (if c ≠ c then big else c)
/-- Both infinities replaced by large constants. -/
def san (c : EReal) : EReal := if sanUp c = Ideal.ofBits .f32 0xFF800000#32 then nbig else sanUp c
/-- The three coefficients of image `n`. -/
def c0 (w : Win) (n : Fin 32) : EReal := san (i00 w * b1 w n + i01 w * b2 w n + i02 w * b3 w n)
def c1 (w : Win) (n : Fin 32) : EReal := san (i01 w * b1 w n + i11 w * b2 w n + i12 w * b3 w n)
def c2 (w : Win) (n : Fin 32) : EReal := san (i02 w * b1 w n + i12 w * b2 w n + i22 w * b3 w n)
/-- The fitted value, and the same rounded to the step `lsb`, whose inverse is `ilsb`. -/
def fit (w : Win) (n : Fin 32) (i l : Fin 8) : EReal := c0 w n * w 0 i l + c1 w n * w 1 i l + c2 w n
def fitq (lsb ilsb : EReal) (w : Win) (n : Fin 32) (i l : Fin 8) : EReal := rne (fit w n i l * ilsb) * lsb
/-- The squared distance of image `n` from its fit. -/
def loss (lsb ilsb : EReal) (w : Win) (n : Fin 32) : EReal :=
  ∑ l, ∑ i, (w n i l - fitq lsb ilsb w n i l) * (w n i l - fitq lsb ilsb w n i l)
open Classical in
/-- What the kernel keeps of a value: the fit where the loss is at most one and the window is not constant. -/
def keep (lsb ilsb : EReal) (w : Win) (n : Fin 32) (i l : Fin 8) : EReal :=
  if (if isFlat w then two else loss lsb ilsb w n) ≤ 1 then fitq lsb ilsb w n i l else w n i l

end K

namespace R
open Plane

/-- Row and lane of point `p` of a window. -/
def row (p : Fin 64) : Fin 8 := ⟨p / 8, by omega⟩
def lane (p : Fin 64) : Fin 8 := ⟨p % 8, by omega⟩
/-- The base matrix: the two base images and ones. -/
def base (w : Win) (k : Fin 3) (p : Fin 64) : EReal := if k = 0 then w 0 (row p) (lane p) else if k = 1 then w 1 (row p) (lane p) else 1
/-- The product of the base matrix with its transpose. -/
def gram (w : Win) (k k' : Fin 3) : EReal := ∑ p, base w k p * base w k' p
/-- The determinant of a 3 by 3 matrix over the permutations of its columns. -/
def det3 (m : Fin 3 → Fin 3 → EReal) : EReal :=
  m 0 0 * m 1 1 * m 2 2 + m 0 1 * m 1 2 * m 2 0 + m 0 2 * m 1 0 * m 2 1 - m 0 2 * m 1 1 * m 2 0 - m 0 1 * m 1 0 * m 2 2 - m 0 0 * m 1 2 * m 2 1
/-- The identity matrix. -/
def eye (k k' : Fin 3) : EReal := if k = k' then 1 else 0
open Classical in
/-- The matrix to invert: the identity where the determinant is zero. -/
def mat (w : Win) (k k' : Fin 3) : EReal := if det3 (gram w) = 0 then eye k k' else gram w k k'
/-- A matrix with the identity beside it. -/
def beside (m : Fin 3 → Fin 3 → EReal) (k : Fin 3) (q : Fin 6) : EReal :=
  if h : (q : ℕ) < 3 then m k ⟨q, h⟩ else eye k ⟨q - 3, by omega⟩
/-- One step of the elimination, with the pivot in row and column `k`. -/
def step (k : Fin 3) (k' : Fin 6) (a : Fin 3 → Fin 6 → EReal) (r : Fin 3) (q : Fin 6) : EReal :=
  if r = k then Ideal.div (a k q) (a k k') else a r q - a r k' * Ideal.div (a k q) (a k k')
/-- The inverse by elimination. -/
def inv (m : Fin 3 → Fin 3 → EReal) (k j : Fin 3) : EReal :=
  step 2 2 (step 1 1 (step 0 0 (beside m))) k ⟨3 + j, by omega⟩
/-- The fitted value at point `p` of image `n`. -/
def fit (w : Win) (n : Fin 32) (p : Fin 64) : EReal :=
  ∑ k, base w k p * ∑ p', (∑ j, inv (mat w) k j * base w j p') * w n (row p') (lane p')
/-- The fitted value rounded to the step `lsb`. -/
def fitq (lsb : EReal) (w : Win) (n : Fin 32) (p : Fin 64) : EReal := ste (Ideal.div (fit w n p) lsb) * lsb
/-- The squared distance of image `n` from its fit. -/
def loss (lsb : EReal) (w : Win) (n : Fin 32) : EReal :=
  ∑ p, (w n (row p) (lane p) - fitq lsb w n p) * (w n (row p) (lane p) - fitq lsb w n p)
open Classical in
/-- What the reference keeps of the value at point `p`. -/
def keep (lsb : EReal) (w : Win) (n : Fin 32) (p : Fin 64) : EReal :=
  if isFlat w then w n (row p) (lane p)
  else if (if isFlat w then two else loss lsb w n) ≤ 1 then fitq lsb w n p else w n (row p) (lane p)

end R

end Cert
-- ==== Proof.Algebra.lean ====
/-
  The algebra of the plane fit over the reals: elimination gives the symmetric inverse by cofactors, and the kernel's
  coefficients give the reference's fitted values.
-/
module

public import proofs.«01_k».proof.Proof.Model

@[expose] public section

noncomputable section

namespace Cert.Alg

open Idealize.ShloMosaic

/-! ## Real arithmetic inside the extended reals -/

theorem div_real (x y : ℝ) (h : y ≠ 0) : Ideal.div (x : EReal) (y : EReal) = ((x / y : ℝ) : EReal) := by
  rw [Ideal.div_coe h, ← EReal.coe_mul]; congr 1; field_simp

theorem sum_real {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

theorem coe_eq_zero (x : ℝ) : ((x : ℝ) : EReal) = 0 ↔ x = 0 := by exact_mod_cast Iff.rfl

theorem rne_real (x : ℝ) : Plane.rne (x : EReal) = ((Ideal.roundHalfEven x : ℝ) : EReal) := rfl
theorem ste_real (x : ℝ) : Plane.ste (x : EReal) = Plane.rne (x : EReal) := by
  unfold Plane.ste; rw [rne_real, ← EReal.coe_sub, ← EReal.coe_add]; congr 1; ring
theorem rne_zero : Plane.rne 0 = 0 := by
  have : Plane.rne ((0 : ℝ) : EReal) = ((Ideal.roundHalfEven 0 : ℝ) : EReal) := rfl
  simpa [Ideal.roundHalfEven] using this

theorem npt_real : K.npt = ((64 : ℝ) : EReal) := by
  simp [K.npt, Ideal.ofBits, Ideal.ieee]
  rw [← EReal.coe_mul]; norm_num

/-- A sum over the points of a window, lane by lane. -/
theorem sum_points {M : Type} [AddCommMonoid M] (f : Fin 8 → Fin 8 → M) : ∑ p : Fin 64, f (R.row p) (R.lane p) = ∑ l, ∑ i, f i l := by
  rw [Finset.sum_comm, ← Finset.sum_product']
  refine Finset.sum_bij' (fun p _ => (R.row p, R.lane p)) (fun q _ => ⟨8 * q.1 + q.2, by omega⟩) ?_ ?_ ?_ ?_ ?_
  · intro p _; simp
  · intro q _; simp
  · intro p _; simp [R.row, R.lane, Fin.ext_iff]; omega
  · intro q _; simp [R.row, R.lane, Prod.ext_iff, Fin.ext_iff]; omega
  · intro p _; rfl

/-! ## Elimination over the reals -/

/-- A matrix with the identity beside it, and one step of the elimination, over the reals. -/
def beside (m : Fin 3 → Fin 3 → ℝ) (k : Fin 3) (q : Fin 6) : ℝ :=
  if h : (q : ℕ) < 3 then m k ⟨q, h⟩ else if k = ⟨q - 3, by omega⟩ then 1 else 0
def step (k : Fin 3) (k' : Fin 6) (a : Fin 3 → Fin 6 → ℝ) (r : Fin 3) (q : Fin 6) : ℝ :=
  if r = k then a k q / a k k' else a r q - a r k' * (a k q / a k k')

theorem beside_real (m : Fin 3 → Fin 3 → ℝ) : R.beside (fun k j => ((m k j : ℝ) : EReal)) = fun k q => ((beside m k q : ℝ) : EReal) := by
  funext k q; unfold R.beside beside R.eye
  split
  · rfl
  · split <;> simp

theorem step_real (k : Fin 3) (k' : Fin 6) (a : Fin 3 → Fin 6 → ℝ) (h : a k k' ≠ 0) :
    R.step k k' (fun r q => ((a r q : ℝ) : EReal)) = fun r q => ((step k k' a r q : ℝ) : EReal) := by
  funext r q; unfold R.step step
  rw [div_real _ _ h]
  split
  · rfl
  · rw [← EReal.coe_mul, ← EReal.coe_sub]

/-- The determinant of a symmetric matrix as the kernel writes it. -/
def sdet (a b c d e f : ℝ) : ℝ := a * (d * f - e * e) - b * (b * f - e * c) + c * (b * e - d * c)

/-- The symmetric matrix with rows `a b c`, `b d e`, `c e f`. -/
def sym (a b c d e f : ℝ) : Fin 3 → Fin 3 → ℝ := ![![a, b, c], ![b, d, e], ![c, e, f]]

/-- Its adjugate over its determinant. -/
def adj (a b c d e f : ℝ) : Fin 3 → Fin 3 → ℝ :=
  ![![(d * f - e * e) * (1 / sdet a b c d e f), (c * e - b * f) * (1 / sdet a b c d e f), (b * e - d * c) * (1 / sdet a b c d e f)],
    ![(c * e - b * f) * (1 / sdet a b c d e f), (a * f - c * c) * (1 / sdet a b c d e f), (b * c - a * e) * (1 / sdet a b c d e f)],
    ![(b * e - d * c) * (1 / sdet a b c d e f), (b * c - a * e) * (1 / sdet a b c d e f), (a * d - b * b) * (1 / sdet a b c d e f)]]

/-- Elimination without exchanging rows, over the reals. -/
theorem elim_adj (a b c d e f : ℝ) (h1 : a ≠ 0) (h2 : a * d - b ^ 2 ≠ 0) (h3 : sdet a b c d e f ≠ 0) (k j : Fin 3) :
    step 2 2 (step 1 1 (step 0 0 (beside (sym a b c d e f)))) k ⟨3 + j, by omega⟩ = adj a b c d e f k j := by
  have q2 : d - b * (b / a) = (a * d - b ^ 2) / a := by field_simp
  have q3 : f - c * (c / a) - (e - c * (b / a)) * ((e - b * (c / a)) / ((a * d - b ^ 2) / a)) = sdet a b c d e f / (a * d - b ^ 2) := by
    unfold sdet; field_simp; ring
  have hS : sdet a b c d e f = a * (d * f - e * e) - b * (b * f - e * c) + c * (b * e - d * c) := rfl
  fin_cases k <;> fin_cases j <;> simp [step, beside, sym, adj] <;> rw [q2, q3] <;> generalize sdet a b c d e f = S at h3 hS <;> field_simp <;> first | (rw [hS]; ring) | ring

/-- Elimination without exchanging rows inverts a symmetric matrix whose leading minors are not zero. -/
theorem elim_real (a b c d e f : ℝ) (h1 : a ≠ 0) (h2 : a * d - b ^ 2 ≠ 0) (h3 : sdet a b c d e f ≠ 0) (k j : Fin 3) :
    R.inv (fun k j => ((sym a b c d e f k j : ℝ) : EReal)) k j = ((adj a b c d e f k j : ℝ) : EReal) := by
  have q2 : d - b * (b / a) = (a * d - b ^ 2) / a := by field_simp
  have q3 : f - c * (c / a) - (e - c * (b / a)) * ((e - b * (c / a)) / ((a * d - b ^ 2) / a)) = sdet a b c d e f / (a * d - b ^ 2) := by
    unfold sdet; field_simp; ring
  have e2 : (step 0 0 (beside (sym a b c d e f))) 1 1 = (a * d - b ^ 2) / a := by
    rw [← q2]; simp [step, beside, sym]
  have e3 : (step 1 1 (step 0 0 (beside (sym a b c d e f)))) 2 2 = sdet a b c d e f / (a * d - b ^ 2) := by
    rw [← q3, ← q2]; simp [step, beside, sym]
  unfold R.inv
  rw [beside_real, step_real 0 0 _ (by simpa [beside, sym] using h1), step_real 1 1 _ (by rw [e2]; exact div_ne_zero h2 h1),
    step_real 2 2 _ (by rw [e3]; exact div_ne_zero h3 h2)]
  exact congrArg (fun z : ℝ => (z : EReal)) (elim_adj a b c d e f h1 h2 h3 k j)

/-- The identity is its own inverse. -/
theorem elim_eye (k j : Fin 3) : R.inv R.eye k j = R.eye k j := by
  have h : R.eye = fun k j => ((sym 1 0 0 1 0 1 k j : ℝ) : EReal) := by
    funext k j; fin_cases k <;> fin_cases j <;> simp [R.eye, sym]
  rw [h, elim_real 1 0 0 1 0 1 (by norm_num) (by norm_num) (by norm_num [sdet])]
  fin_cases k <;> fin_cases j <;> simp [adj, sym, sdet]

/-! ## The matrix of window sums -/

section
variable (W : Fin 32 → Fin 8 → Fin 8 → ℝ)

/-- The window sums over the reals. -/
def B1 (n : Fin 32) : ℝ := ∑ l, ∑ i, W n i l * W 0 i l
def B2 (n : Fin 32) : ℝ := ∑ l, ∑ i, W n i l * W 1 i l
def B3 (n : Fin 32) : ℝ := ∑ l, ∑ i, W n i l

/-- The window of the extended reals over a real window. -/
def lift : Win := fun n i l => ((W n i l : ℝ) : EReal)

theorem b1_real (n : Fin 32) : K.b1 (lift W) n = ((B1 W n : ℝ) : EReal) := by
  unfold K.b1 lift B1; simp only [← EReal.coe_mul, sum_real]
theorem b2_real (n : Fin 32) : K.b2 (lift W) n = ((B2 W n : ℝ) : EReal) := by
  unfold K.b2 lift B2; simp only [← EReal.coe_mul, sum_real]
theorem b3_real (n : Fin 32) : K.b3 (lift W) n = ((B3 W n : ℝ) : EReal) := by
  unfold K.b3 lift B3; simp only [sum_real]

theorem B12 : B2 W 0 = B1 W 1 := by
  unfold B2 B1; simp only [mul_comm]

/-- The determinant of the matrix of window sums. -/
def D : ℝ := sdet (B1 W 0) (B1 W 1) (B3 W 0) (B2 W 1) (B3 W 1) 64

theorem det_real : K.det (lift W) = ((D W : ℝ) : EReal) := by
  unfold K.det D sdet; simp only [b1_real, b2_real, b3_real, npt_real, ← EReal.coe_mul, ← EReal.coe_sub, ← EReal.coe_add]

/-- Where the determinant is not zero, neither is the first leading minor: it is the sum of the first base image's squares. -/
theorem minor1 (h : D W ≠ 0) : B1 W 0 ≠ 0 := by
  intro h0; apply h
  have hz : ∀ i l, W 0 i l = 0 := by
    intro i l
    unfold B1 at h0
    have h1 := (Finset.sum_eq_zero_iff_of_nonneg (fun l _ => Finset.sum_nonneg fun i _ => mul_self_nonneg (W 0 i l))).1 h0 l (Finset.mem_univ _)
    have h2 := (Finset.sum_eq_zero_iff_of_nonneg (fun i _ => mul_self_nonneg (W 0 i l))).1 h1 i (Finset.mem_univ _)
    exact mul_self_eq_zero.1 h2
  unfold D sdet B1 B3; simp [hz]

/-- Nor is the second: else the two base images would be proportional. -/
theorem minor2 (h : D W ≠ 0) : B1 W 0 * B2 W 1 - B1 W 1 ^ 2 ≠ 0 := by
  intro h0
  have ha := minor1 W h
  have hs : ∑ l, ∑ i, (B1 W 0 * W 1 i l - B1 W 1 * W 0 i l) * (B1 W 0 * W 1 i l - B1 W 1 * W 0 i l) = 0 := by
    have : ∀ i l, (B1 W 0 * W 1 i l - B1 W 1 * W 0 i l) * (B1 W 0 * W 1 i l - B1 W 1 * W 0 i l)
        = B1 W 0 ^ 2 * (W 1 i l * W 1 i l) - 2 * B1 W 0 * B1 W 1 * (W 1 i l * W 0 i l) + B1 W 1 ^ 2 * (W 0 i l * W 0 i l) := by
      intro i l; ring
    simp only [this, Finset.sum_add_distrib, Finset.sum_sub_distrib, ← Finset.mul_sum]
    change B1 W 0 ^ 2 * B2 W 1 - 2 * B1 W 0 * B1 W 1 * B1 W 1 + B1 W 1 ^ 2 * B1 W 0 = 0
    have : B1 W 0 ^ 2 * B2 W 1 - 2 * B1 W 0 * B1 W 1 * B1 W 1 + B1 W 1 ^ 2 * B1 W 0 = B1 W 0 * (B1 W 0 * B2 W 1 - B1 W 1 ^ 2) := by ring
    rw [this, h0, mul_zero]
  have hz : ∀ i l, B1 W 0 * W 1 i l - B1 W 1 * W 0 i l = 0 := by
    intro i l
    have h1 := (Finset.sum_eq_zero_iff_of_nonneg (fun l _ => Finset.sum_nonneg fun i _ => mul_self_nonneg (B1 W 0 * W 1 i l - B1 W 1 * W 0 i l))).1 hs l (Finset.mem_univ _)
    have h2 := (Finset.sum_eq_zero_iff_of_nonneg (fun i _ => mul_self_nonneg (B1 W 0 * W 1 i l - B1 W 1 * W 0 i l))).1 h1 i (Finset.mem_univ _)
    exact mul_self_eq_zero.1 h2
  have h3 : B1 W 0 * B3 W 1 - B1 W 1 * B3 W 0 = 0 := by
    unfold B3; simp only [Finset.mul_sum, ← Finset.sum_sub_distrib, hz, Finset.sum_const_zero]
  apply h
  have : B1 W 0 * D W = (B1 W 0 * B2 W 1 - B1 W 1 ^ 2) * (B1 W 0 * 64 - B3 W 0 ^ 2) - (B1 W 0 * B3 W 1 - B1 W 1 * B3 W 0) ^ 2 := by
    unfold D sdet; ring
  rw [h0, h3] at this
  simpa [ha] using this

/-! ## Both inverses, and both fits -/

open Classical in
/-- The inverse over the reals: the identity where the determinant is zero. -/
def I (k j : Fin 3) : ℝ := if D W = 0 then (if k = j then 1 else 0) else adj (B1 W 0) (B1 W 1) (B3 W 0) (B2 W 1) (B3 W 1) 64 k j

theorem idet_real (h : D W ≠ 0) : K.idet (lift W) = ((1 / D W : ℝ) : EReal) := by
  unfold K.idet; rw [det_real, if_neg (by rwa [coe_eq_zero]), ← div_real _ _ h]; rfl

theorem i00_real : K.i00 (lift W) = ((I W 0 0 : ℝ) : EReal) := by
  unfold K.i00 I; rw [det_real]; simp only [coe_eq_zero]
  by_cases h : D W = 0
  · simp [h]
  · simp only [h, if_false, idet_real W h, b1_real, b2_real, b3_real, npt_real, ← EReal.coe_mul, ← EReal.coe_sub]; rfl
theorem i01_real : K.i01 (lift W) = ((I W 0 1 : ℝ) : EReal) := by
  unfold K.i01 I; rw [det_real]; simp only [coe_eq_zero]
  by_cases h : D W = 0
  · simp [h]
  · simp only [h, if_false, idet_real W h, b1_real, b2_real, b3_real, npt_real, ← EReal.coe_mul, ← EReal.coe_sub]; rfl
theorem i02_real : K.i02 (lift W) = ((I W 0 2 : ℝ) : EReal) := by
  unfold K.i02 I; rw [det_real]; simp only [coe_eq_zero]
  by_cases h : D W = 0
  · simp [h]
  · simp only [h, if_false, idet_real W h, b1_real, b2_real, b3_real, npt_real, ← EReal.coe_mul, ← EReal.coe_sub]; rfl
theorem i11_real : K.i11 (lift W) = ((I W 1 1 : ℝ) : EReal) := by
  unfold K.i11 I; rw [det_real]; simp only [coe_eq_zero]
  by_cases h : D W = 0
  · simp [h]
  · simp only [h, if_false, idet_real W h, b1_real, b2_real, b3_real, npt_real, ← EReal.coe_mul, ← EReal.coe_sub]; rfl
theorem i12_real : K.i12 (lift W) = ((I W 1 2 : ℝ) : EReal) := by
  unfold K.i12 I; rw [det_real]; simp only [coe_eq_zero]
  by_cases h : D W = 0
  · simp [h]
  · simp only [h, if_false, idet_real W h, b1_real, b2_real, b3_real, npt_real, ← EReal.coe_mul, ← EReal.coe_sub]; rfl
theorem i22_real : K.i22 (lift W) = ((I W 2 2 : ℝ) : EReal) := by
  unfold K.i22 I; rw [det_real]; simp only [coe_eq_zero]
  by_cases h : D W = 0
  · simp [h]
  · simp only [h, if_false, idet_real W h, b1_real, b2_real, b3_real, npt_real, ← EReal.coe_mul, ← EReal.coe_sub]; rfl

theorem I_comm (k j : Fin 3) : I W k j = I W j k := by
  unfold I; split
  · simp only [eq_comm]
  · fin_cases k <;> fin_cases j <;> rfl

theorem san_real (x : ℝ) : K.san (x : EReal) = x := by
  have ht : Ideal.ofBits .f32 0x7F800000#32 = ⊤ := by simp [Ideal.ofBits, Ideal.ieee]
  have hb : Ideal.ofBits .f32 0xFF800000#32 = ⊥ := by simp [Ideal.ofBits, Ideal.ieee]
  unfold K.san K.sanUp; simp [ht, hb]

/-- The coefficients over the reals. -/
def C (n : Fin 32) (k : Fin 3) : ℝ := I W k 0 * B1 W n + I W k 1 * B2 W n + I W k 2 * B3 W n
/-- The fitted value over the reals. -/
def fitr (n : Fin 32) (i l : Fin 8) : ℝ := C W n 0 * W 0 i l + C W n 1 * W 1 i l + C W n 2

theorem kfit_real (n : Fin 32) (i l : Fin 8) : K.fit (lift W) n i l = ((fitr W n i l : ℝ) : EReal) := by
  unfold K.fit K.c0 K.c1 K.c2 fitr C
  simp only [i00_real, i01_real, i02_real, i11_real, i12_real, i22_real, b1_real, b2_real, b3_real, ← EReal.coe_mul, ← EReal.coe_add, san_real]
  rw [I_comm W 1 0, I_comm W 2 0, I_comm W 2 1]
  simp only [lift, ← EReal.coe_mul, ← EReal.coe_add]

/-- The base matrix over the reals. -/
def baser (k : Fin 3) (p : Fin 64) : ℝ := if k = 0 then W 0 (R.row p) (R.lane p) else if k = 1 then W 1 (R.row p) (R.lane p) else 1

theorem base_real (k : Fin 3) (p : Fin 64) : R.base (lift W) k p = ((baser W k p : ℝ) : EReal) := by
  unfold R.base baser lift; split_ifs <;> simp

theorem gram_real : R.gram (lift W) = fun k j => ((sym (B1 W 0) (B1 W 1) (B3 W 0) (B2 W 1) (B3 W 1) 64 k j : ℝ) : EReal) := by
  funext k j
  unfold R.gram; simp only [base_real, ← EReal.coe_mul, sum_real]
  congr 1
  have e00 := sum_points fun i l => W 0 i l * W 0 i l
  have e01 := sum_points fun i l => W 1 i l * W 0 i l
  have e11 := sum_points fun i l => W 1 i l * W 1 i l
  have e0 := sum_points fun i l => W 0 i l
  have e1 := sum_points fun i l => W 1 i l
  have e01' : ∑ p : Fin 64, W 0 (R.row p) (R.lane p) * W 1 (R.row p) (R.lane p) = ∑ l, ∑ i, W 1 i l * W 0 i l := by
    rw [← e01]; simp only [mul_comm]
  fin_cases k <;> fin_cases j <;> simp [baser, sym, B1, B2, B3, e00, e01, e01', e11, e0, e1]

theorem det3_real : R.det3 (R.gram (lift W)) = ((D W : ℝ) : EReal) := by
  rw [gram_real]; unfold R.det3
  simp only [← EReal.coe_mul, ← EReal.coe_sub, ← EReal.coe_add]
  congr 1
  simp [sym, D, sdet]; ring

theorem inv_real (k j : Fin 3) : R.inv (R.mat (lift W)) k j = ((I W k j : ℝ) : EReal) := by
  by_cases h : D W = 0
  · have hm : R.mat (lift W) = R.eye := by
      funext k j; unfold R.mat; rw [det3_real, if_pos (by rwa [coe_eq_zero])]
    rw [hm, elim_eye]; unfold I R.eye; rw [if_pos h]; split <;> simp
  · have hm : R.mat (lift W) = fun k j => ((sym (B1 W 0) (B1 W 1) (B3 W 0) (B2 W 1) (B3 W 1) 64 k j : ℝ) : EReal) := by
      funext k j; unfold R.mat; rw [det3_real, if_neg (by rwa [coe_eq_zero]), gram_real]
    rw [hm, elim_real _ _ _ _ _ _ (minor1 W h) (minor2 W h) h]; unfold I; rw [if_neg h]

theorem rfit_real (n : Fin 32) (p : Fin 64) : R.fit (lift W) n p = ((fitr W n (R.row p) (R.lane p) : ℝ) : EReal) := by
  have hP : ∀ k, ∑ p', (∑ j, R.inv (R.mat (lift W)) k j * R.base (lift W) j p') * lift W n (R.row p') (R.lane p') = ((C W n k : ℝ) : EReal) := by
    intro k
    simp only [inv_real, base_real, lift, ← EReal.coe_mul, sum_real]
    congr 1
    have e0 := sum_points fun i l => W n i l * W 0 i l
    have e1 := sum_points fun i l => W n i l * W 1 i l
    have e2 := sum_points fun i l => W n i l
    unfold C B1 B2 B3
    rw [← e0, ← e1, ← e2]
    simp only [Finset.mul_sum, ← Finset.sum_add_distrib, Fin.sum_univ_three, baser]
    refine Finset.sum_congr rfl fun p _ => ?_
    simp
    ring
  have hF : R.fit (lift W) n p = ∑ k, ((baser W k p * C W n k : ℝ) : EReal) := by
    unfold R.fit
    refine Finset.sum_congr rfl fun k _ => ?_
    rw [hP, base_real, ← EReal.coe_mul]
  rw [hF, sum_real]
  refine congrArg (fun z : ℝ => (z : EReal)) ?_
  simp [Fin.sum_univ_three, baser, fitr]; ring

/-! ## Rounding to the step, and what is kept -/

/-- Multiplying by the inverse of the step and dividing by the step round to the same value, whatever the step is. -/
theorem step_eq (r : ℝ) (lsb : EReal) :
    Plane.rne ((r : EReal) * Ideal.div 1 lsb) * lsb = Plane.ste (Ideal.div (r : EReal) lsb) * lsb := by
  have h0 : Plane.ste 0 = 0 := by
    have := ste_real 0; rw [EReal.coe_zero] at this; rw [this, rne_zero]
  induction lsb with
  | bot => simp [Ideal.div, rne_zero, h0]
  | top => simp [Ideal.div, rne_zero, h0]
  | coe l =>
    by_cases hl : l = 0
    · simp [hl]
    · have h1 : Ideal.div 1 (l : EReal) = ((1 / l : ℝ) : EReal) := by
        rw [← EReal.coe_one, div_real _ _ hl]
      rw [h1, div_real _ _ hl, ste_real, ← EReal.coe_mul]; congr 3; ring

theorem fitq_eq (lsb : EReal) (n : Fin 32) (p : Fin 64) :
    K.fitq lsb (Ideal.div 1 lsb) (lift W) n (R.row p) (R.lane p) = R.fitq lsb (lift W) n p := by
  unfold K.fitq R.fitq
  rw [kfit_real, rfit_real, step_eq]

theorem loss_eq (lsb : EReal) (n : Fin 32) : K.loss lsb (Ideal.div 1 lsb) (lift W) n = R.loss lsb (lift W) n := by
  unfold K.loss R.loss
  simp only [← fitq_eq]
  exact (sum_points fun i l => (lift W n i l - K.fitq lsb (Ideal.div 1 lsb) (lift W) n i l) * (lift W n i l - K.fitq lsb (Ideal.div 1 lsb) (lift W) n i l)).symm

theorem two_le : ¬ Plane.two ≤ 1 := by
  have h : Plane.two = ((2 : ℝ) : EReal) := by
    simp [Plane.two, Ideal.ofBits, Ideal.ieee]
    rw [← EReal.coe_mul]; norm_num
  rw [h, ← EReal.coe_one, EReal.coe_le_coe_iff]; norm_num

/-- Where the window is constant, both ways keep the values as they are. -/
theorem keep_flat (w : Win) (h : Plane.isFlat w) (lsb ilsb lsb' : EReal) (n : Fin 32) (p : Fin 64) :
    K.keep lsb ilsb w n (R.row p) (R.lane p) = R.keep lsb' w n p := by
  unfold K.keep R.keep; simp only [if_pos h, if_neg two_le]

/-- On a window of reals both ways keep the same values. -/
theorem keep_real (lsb : EReal) (n : Fin 32) (p : Fin 64) :
    K.keep lsb (Ideal.div 1 lsb) (lift W) n (R.row p) (R.lane p) = R.keep lsb (lift W) n p := by
  by_cases h : Plane.isFlat (lift W)
  · exact keep_flat _ h _ _ _ _ _
  · unfold K.keep R.keep; simp only [if_neg h, loss_eq, fitq_eq]

end

/-- On a window whose values are all real both ways keep the same values. -/
theorem keep_eq (w : Win) (hw : ∀ n i l, ∃ r : ℝ, w n i l = r) (lsb : EReal) (n : Fin 32) (p : Fin 64) :
    K.keep lsb (Ideal.div 1 lsb) w n (R.row p) (R.lane p) = R.keep lsb w n p := by
  have : w = lift fun n i l => (hw n i l).choose := by
    funext n i l; exact (hw n i l).choose_spec
  rw [this]; exact keep_real _ _ _ _

end Cert.Alg
-- ==== Proof.Scale.lean ====
/-
  The stack of images, its differences from the left neighbours, the scalars both programs take from their extremes, and
  the quantised stack in the two ways the programs write it.
-/
module

public import proofs.«01_k».proof.Proof.Model

@[expose] public section

noncomputable section

namespace Cert

open Idealize.ShloMosaic

/-- A stack of images: image, row, lane. -/
abbrev Pic := Fin 32 → Fin 512 → Fin 512 → EReal

namespace Plane

variable (X : Pic)

/-- The left neighbour (zero at the first lane), and the difference from it. -/
def left (n : Fin 32) (r j : Fin 512) : EReal := if h : (j : ℕ) < 1 then 0 else X n r ⟨j - 1, by omega⟩
def diff (n : Fin 32) (r j : Fin 512) : EReal := X n r j - left X n r j
/-- The largest and the smallest difference. -/
def mx : EReal := ⨆ n, ⨆ r, ⨆ j, diff X n r j
def mn : EReal := ⨅ n, ⨅ r, ⨅ j, diff X n r j
/-- The quantisation's scale. -/
def scale : EReal := Ideal.div (Ideal.ofBits .f32 0x477FFF00#32) (mx X - mn X)
/-- The logarithm whose rounding sets the fit's step. -/
def lg : EReal := Ideal.log (Ideal.div (mx X) (Ideal.ofBits .f32 0x47000000#32)) * Ideal.ofBits .f32 0x3FB8AA3B#32
/-- Row or lane `i` of window `b`. -/
def at8 (b : Fin 64) (i : Fin 8) : Fin 512 := ⟨8 * b + i, by omega⟩

end Plane

open Plane in
/-- The kernel's step, quantised value and window (`hb` counts windows down, `wb` across). -/
def K.lsb (X : Pic) : EReal := Ideal.pow two (rne (lg X) + 1)
open Plane in
def K.quant (X : Pic) (n : Fin 32) (r j : Fin 512) : EReal := rne ((diff X n r j - mn X) * scale X) * Ideal.div 1 (scale X) + mn X
open Plane in
def K.win (X : Pic) (wb hb : Fin 64) : Win := fun n i l => K.quant X n (at8 hb i) (at8 wb l)
open Plane in
/-- The reference's step, quantised value and window. -/
def R.lsb (X : Pic) : EReal := Ideal.pow two (ste (lg X) + 1)
open Plane in
def R.quant (X : Pic) (n : Fin 32) (r j : Fin 512) : EReal := ste ((diff X n r j - mn X) * scale X) * Ideal.div 1 (scale X) + mn X
open Plane in
def R.win (X : Pic) (wb hb : Fin 64) : Win := fun n i l => R.quant X n (at8 hb i) (at8 wb l)

end Cert
-- ==== Proof.Cases.lean ====
/-
  The kernel's value and the reference's agree on every stack of images. Where some difference is infinite the scale is
  zero, every quantised value is the smallest difference and every window is constant; where all differences are real the
  quantised values and the arguments of every rounding but one are real, and the two ways of rounding are the same.
-/
module

public import proofs.«01_k».proof.Proof.Algebra
public import proofs.«01_k».proof.Proof.Scale

@[expose] public section

noncomputable section

namespace Cert.Alg

open Idealize.ShloMosaic Cert.Plane

/-! ## The printed constants -/

theorem c65535 : Ideal.ofBits .f32 0x477FFF00#32 = ((65535 : ℝ) : EReal) := by
  simp [Ideal.ofBits, Ideal.ieee]
  rw [← EReal.coe_mul]; norm_num

theorem c32768 : Ideal.ofBits .f32 0x47000000#32 = ((32768 : ℝ) : EReal) := by
  simp [Ideal.ofBits, Ideal.ieee]
  rw [← EReal.coe_mul]; norm_num

theorem clog : ∃ r : ℝ, 0 < r ∧ Ideal.ofBits .f32 0x3FB8AA3B#32 = (r : EReal) := by
  simp [Ideal.ofBits, Ideal.ieee]
  exact ⟨_, by positivity, (EReal.coe_mul _ _).symm⟩

theorem flat_real : ∃ r : ℝ, 0 < r ∧ flat = (r : EReal) := by
  simp [flat, Ideal.ofBits, Ideal.ieee]
  exact ⟨_, by positivity, (EReal.coe_mul _ _).symm⟩

theorem ste_zero : ste 0 = 0 := by
  have := ste_real 0
  rw [EReal.coe_zero] at this
  rw [this, rne_zero]

variable (X : Pic)

/-! ## The extremes -/

/-- The extremes are attained. -/
theorem mx_at : ∃ n r j, mx X = diff X n r j := by
  obtain ⟨n, hn⟩ := exists_eq_ciSup_of_finite (f := fun n => ⨆ r, ⨆ j, diff X n r j)
  obtain ⟨r, hr⟩ := exists_eq_ciSup_of_finite (f := fun r => ⨆ j, diff X n r j)
  obtain ⟨j, hj⟩ := exists_eq_ciSup_of_finite (f := fun j => diff X n r j)
  exact ⟨n, r, j, (hn.symm.trans hr.symm).trans hj.symm⟩
theorem mn_at : ∃ n r j, mn X = diff X n r j := by
  obtain ⟨n, hn⟩ := exists_eq_ciInf_of_finite (f := fun n => ⨅ r, ⨅ j, diff X n r j)
  obtain ⟨r, hr⟩ := exists_eq_ciInf_of_finite (f := fun r => ⨅ j, diff X n r j)
  obtain ⟨j, hj⟩ := exists_eq_ciInf_of_finite (f := fun j => diff X n r j)
  exact ⟨n, r, j, (hn.symm.trans hr.symm).trans hj.symm⟩

/-- Every difference lies between them. -/
theorem le_mx (n : Fin 32) (r j : Fin 512) : diff X n r j ≤ mx X :=
  (le_iSup (fun j => diff X n r j) j).trans ((le_iSup (fun r => ⨆ j, diff X n r j) r).trans (le_iSup (fun n => ⨆ r, ⨆ j, diff X n r j) n))
theorem mn_le (n : Fin 32) (r j : Fin 512) : mn X ≤ diff X n r j :=
  (iInf_le (fun n => ⨅ r, ⨅ j, diff X n r j) n).trans ((iInf_le (fun r => ⨅ j, diff X n r j) r).trans (iInf_le (fun j => diff X n r j) j))

/-! ## Some difference is infinite -/

/-- Then the spread of the differences is infinite, -/
theorem spread_inf (h : ¬∀ n r j, ∃ x : ℝ, diff X n r j = x) : mx X - mn X = ⊤ ∨ mx X - mn X = ⊥ := by
  push Not at h
  obtain ⟨n, r, j, h⟩ := h
  have h1 := le_mx X n r j
  have h2 := mn_le X n r j
  generalize diff X n r j = d at *
  generalize mx X = a at *
  generalize mn X = b at *
  induction d using EReal.rec with
  | coe x => exact absurd rfl (h x)
  | top =>
    obtain rfl := top_le_iff.1 h1
    induction b using EReal.rec with
    | coe x => exact Or.inl (EReal.top_sub_coe x)
    | top => exact Or.inr rfl
    | bot => exact Or.inl rfl
  | bot =>
    obtain rfl := le_bot_iff.1 h2
    induction a using EReal.rec with
    | coe x => exact Or.inl (EReal.coe_sub_bot x)
    | top => exact Or.inl rfl
    | bot => exact Or.inr rfl

/-- the scale is zero, -/
theorem scale_inf (h : ¬∀ n r j, ∃ x : ℝ, diff X n r j = x) : scale X = 0 := by
  unfold scale
  rcases spread_inf X h with h | h <;> rw [h] <;> simp [Ideal.div]

/-- and every quantised value is the smallest difference. -/
theorem quantK_inf (h : ¬∀ n r j, ∃ x : ℝ, diff X n r j = x) (n : Fin 32) (r j : Fin 512) : K.quant X n r j = mn X := by
  unfold K.quant; rw [scale_inf X h, mul_zero, rne_zero, zero_mul, zero_add]
theorem quantR_inf (h : ¬∀ n r j, ∃ x : ℝ, diff X n r j = x) (n : Fin 32) (r j : Fin 512) : R.quant X n r j = mn X := by
  unfold R.quant; rw [scale_inf X h, mul_zero, ste_zero, zero_mul, zero_add]

/-- A constant window is constant. -/
theorem isFlat_const (a : EReal) : isFlat (fun _ _ _ => a) := by
  obtain ⟨f, hf, e⟩ := flat_real
  have : a - a < flat := by
    rw [e]
    induction a using EReal.rec with
    | coe x => rw [← EReal.coe_sub, sub_self]; exact_mod_cast hf
    | top => exact EReal.bot_lt_coe f
    | bot => exact EReal.bot_lt_coe f
  simp only [isFlat, top, bot, iSup_const, iInf_const]
  exact ⟨this, this⟩

/-! ## All differences are real -/

/-- Then the argument of the quantisation's rounding is real, and so is what it is multiplied by and added to. -/
theorem quant_real (h : ∀ n r j, ∃ x : ℝ, diff X n r j = x) (n : Fin 32) (r j : Fin 512) :
    (∃ y : ℝ, (diff X n r j - mn X) * scale X = y) ∧ ∃ y : ℝ, K.quant X n r j = y := by
  obtain ⟨n1, r1, j1, e1⟩ := mx_at X
  obtain ⟨n2, r2, j2, e2⟩ := mn_at X
  obtain ⟨a, ha⟩ := h n1 r1 j1
  obtain ⟨b, hb⟩ := h n2 r2 j2
  obtain ⟨d, hd⟩ := h n r j
  have l1 := le_mx X n r j
  have l2 := mn_le X n r j
  rw [e1, ha, hd] at l1
  rw [e2, hb, hd] at l2
  have l1 : d ≤ a := by exact_mod_cast l1
  have l2 : b ≤ d := by exact_mod_cast l2
  unfold K.quant scale
  rw [e1, e2, ha, hb, hd, c65535, ← EReal.coe_sub, ← EReal.coe_sub]
  by_cases hab : a - b = 0
  · have hdb : d - b = 0 := by linarith
    rw [hdb, EReal.coe_zero, zero_mul, rne_zero, zero_mul, zero_add]
    exact ⟨⟨0, rfl⟩, ⟨b, rfl⟩⟩
  · rw [div_real _ _ hab]
    have hs : (65535 / (a - b) : ℝ) ≠ 0 := div_ne_zero (by norm_num) hab
    rw [← EReal.coe_one, div_real _ _ hs, ← EReal.coe_mul, rne_real, ← EReal.coe_mul, ← EReal.coe_add]
    exact ⟨⟨_, rfl⟩, ⟨_, rfl⟩⟩

/-- The two quantised stacks are the same, -/
theorem quant_eq (h : ∀ n r j, ∃ x : ℝ, diff X n r j = x) (n : Fin 32) (r j : Fin 512) : R.quant X n r j = K.quant X n r j := by
  obtain ⟨⟨y, hy⟩, -⟩ := quant_real X h n r j
  unfold R.quant K.quant; rw [hy, ste_real]

/-- and so are the two steps. -/
theorem lsb_eq (h : ∀ n r j, ∃ x : ℝ, diff X n r j = x) : R.lsb X = K.lsb X := by
  obtain ⟨n1, r1, j1, e1⟩ := mx_at X
  obtain ⟨a, ha⟩ := h n1 r1 j1
  obtain ⟨k, hk, ek⟩ := clog
  have : ste (lg X) = rne (lg X) := by
    unfold lg
    rw [e1, ha, c32768, div_real _ _ (by norm_num), ek, Ideal.log_coe]
    split
    · rw [EReal.bot_mul_coe_of_pos hk]; rfl
    · rw [← EReal.coe_mul, ste_real]
  unfold R.lsb K.lsb; rw [this]

/-! ## Both -/

/-- What the kernel keeps is what the reference keeps, at every point of every window. -/
theorem keep_all (wb hb : Fin 64) (n : Fin 32) (p : Fin 64) :
    K.keep (K.lsb X) (Ideal.div 1 (K.lsb X)) (K.win X wb hb) n (R.row p) (R.lane p) = R.keep (R.lsb X) (R.win X wb hb) n p := by
  by_cases h : ∀ n r j, ∃ x : ℝ, diff X n r j = x
  · have hw : R.win X wb hb = K.win X wb hb := by
      funext n i l; exact quant_eq X h n _ _
    rw [hw, lsb_eq X h]
    exact keep_eq _ (fun n i l => (quant_real X h n _ _).2) _ n p
  · have hk : K.win X wb hb = fun _ _ _ => mn X := by
      funext n i l; exact quantK_inf X h n _ _
    have hr : R.win X wb hb = fun _ _ _ => mn X := by
      funext n i l; exact quantR_inf X h n _ _
    rw [hk, hr]
    exact keep_flat _ (isFlat_const _) _ _ _ n p

end Cert.Alg
-- ==== Proof.Kwin.lean ====
/-
  The printed values of the kernel's second body, read at an index: what the body leaves in its output band is, window by
  window, the model's `K.keep` of the window plus the left neighbour.
-/
module

public import proofs.«01_k».proof.Proof.Model
public import proofs.«01_k».proof.Proof.IdealFit

@[expose] public section

set_option maxRecDepth 16384

noncomputable section

namespace Cert.Kwin

open Idealize.ShloMosaic Cert.KernelIdeal Cert.KernelIdeal.Gen
open Cert.KernelIdeal.Fit (gather expand sums3 rows1 sums1 sums2 sum1 sum2 sum11 sum12 sum22 sing idet inv00 minor01 inv01 inv02 inv11 inv12 inv22 coef0 coef0up coef2 lanes0 lanes1 fit loss rem8 max1 min1 max2 quant base1 base2)

/-- The lane of the band at lane `l` of window `b`. -/
def col (b : Fin 64) (l : Fin 8) : Fin 512 := ⟨8 * b + l, by omega⟩

theorem sgn8_eq : Fit.sgn8 = 1#32 := by decide

/-- The word of a lane's window. -/
theorem word_div : ∀ j : Fin 512,
    Scalar.select
            (IntOp.andi
              (IntOp.cmpi CmpIPredicate.ne
                (IntOp.subi (BitVec.setWidth 32 (IntOp.cmpi CmpIPredicate.sgt (BitVec.ofNat 32 ↑j) 0#32))
                  (BitVec.setWidth 32 (IntOp.cmpi CmpIPredicate.slt (BitVec.ofNat 32 ↑j) 0#32)))
                1#32)
              (IntOp.cmpi CmpIPredicate.ne (IntOp.remsi ArithUnit.vector (BitVec.ofNat 32 ↑j) 8#32) 0#32))
            (IntOp.subi (IntOp.divsi ArithUnit.vector (BitVec.ofNat 32 ↑j) 8#32) 1#32)
            (IntOp.divsi ArithUnit.vector (BitVec.ofNat 32 ↑j) 8#32) = BitVec.ofNat 32 (j / 8) := by
  decide +kernel

/-- A bit widened and read as a number: one or zero. -/
theorem bit_value (b : Bool) : FloatOps.sitofp (F := Ideal) FTy.f32 (BitVec.setWidth 32 (BitVec.ofBool b)) = if b then 1 else 0 := by
  cases b
  · exact congrArg (fun z : ℤ => ((z : ℝ) : EReal)) (by decide : (BitVec.setWidth 32 (BitVec.ofBool false)).toInt = 0) |>.trans (by simp)
  · exact congrArg (fun z : ℤ => ((z : ℝ) : EReal)) (by decide : (BitVec.setWidth 32 (BitVec.ofBool true)).toInt = 1) |>.trans (by simp)

/-- Two words of numbers below 64 are equal when the numbers are. -/
theorem word_eq (a b : Fin 64) : IntOp.cmpi CmpIPredicate.eq (BitVec.ofNat 32 a) (BitVec.ofNat 32 b) = BitVec.ofBool (decide (a = b)) := by
  revert a b; decide +kernel

theorem gather_at (j : Fin 512) (b : Fin 64) : gather (F := Ideal) (ix2 j b) = if (j : ℕ) / 8 = b then 1 else 0 := by
  unfold gather
  pointwise [k1_pay9, k1_pay7, k1_pay8]
  rw [sgn8_eq, word_div]
  have := word_eq ⟨j / 8, by omega⟩ b
  simp only [] at this
  rw [this, bit_value]; simp [Fin.ext_iff]

theorem expand_at (j : Fin 512) (b : Fin 64) : expand (F := Ideal) (ix2 b j) = if (j : ℕ) / 8 = b then 1 else 0 := by
  unfold expand
  pointwise [k1_pay10]
  have h8 : Scalar.subi (Scalar.extui (Scalar.cmpi CmpIPredicate.sgt 8#32 0#32)) (Scalar.extui (Scalar.cmpi CmpIPredicate.slt 8#32 0#32)) = 1#32 := by decide
  rw [h8, word_div]
  have := word_eq ⟨j / 8, by omega⟩ b
  simp only [] at this
  rw [this, bit_value]; simp [Fin.ext_iff]

/-- A sum over lanes against a window's indicator is the sum over the window's lanes. -/
theorem gather_sum (f : Fin 512 → EReal) (b : Fin 64) : ∑ j, f j * gather (F := Ideal) (ix2 j b) = ∑ l, f (col b l) := by
  simp only [gather_at, mul_ite, mul_one, mul_zero]
  rw [← Finset.sum_filter]
  symm
  refine Finset.sum_bij' (fun l _ => col b l) (fun j _ => ⟨j % 8, by omega⟩) ?_ ?_ ?_ ?_ ?_
  · intro l _; simp [col]; omega
  · intro j _; simp
  · intro l _; simp [col, Fin.ext_iff]
  · intro j hj; simp at hj; simp [col, Fin.ext_iff]; omega
  · intro l _; rfl

/-- A sum over windows against a lane's indicator is the value at the lane's window. -/
theorem expand_sum (f : Fin 64 → EReal) (b : Fin 64) (l : Fin 8) : ∑ b', f b' * expand (F := Ideal) (ix2 b' (col b l)) = f b := by
  simp only [expand_at, mul_ite, mul_one, mul_zero]
  have h : ∀ b' : Fin 64, ((col b l : Fin 512) : ℕ) / 8 = b' ↔ b = b' := by
    intro b'; simp [col, Fin.ext_iff]; omega
  simp [h]

/-- The values of window `b` of a band. -/
def win (v : FVec Ideal S32x8x512 .f32) (b : Fin 64) : Win := fun n i l => v (ix3 n i (col b l))

/-! ## The window sums and the coefficients -/

section
variable (s0 s1 s2 s3 s4 : EReal) (x : Vec Ideal S32x8x512 .f32)

theorem base1_at (i : Fin 8) (j : Fin 512) : base1 (F := Ideal) s0 s1 s2 x (ix2 i j) = quant (F := Ideal) s0 s1 s2 x (ix3 0 i j) := by
  unfold base1 quant; pointwise [k1_pay5]
theorem base2_at (i : Fin 8) (j : Fin 512) : base2 (F := Ideal) s0 s1 s2 x (ix2 i j) = quant (F := Ideal) s0 s1 s2 x (ix3 1 i j) := by
  unfold base2 quant; pointwise [k1_pay6]

theorem sums3_at (n : Fin 32) (b : Fin 64) : sums3 (F := Ideal) s0 s1 s2 x (ix2 n b) = K.b3 (win (quant (F := Ideal) s0 s1 s2 x) b) n := by
  unfold sums3
  pointwise [k1_pay11]
  exact gather_sum (fun j => ∑ i, quant (F := Ideal) s0 s1 s2 x (ix3 n i j)) b

theorem sums1_at (n : Fin 32) (b : Fin 64) : sums1 (F := Ideal) s0 s1 s2 x (ix2 n b) = K.b1 (win (quant (F := Ideal) s0 s1 s2 x) b) n := by
  unfold sums1 rows1
  pointwise [k1_pay13, k1_pay12]
  simp only [base1_at]
  exact gather_sum (fun j => ∑ i, quant (F := Ideal) s0 s1 s2 x (ix3 n i j) * quant (F := Ideal) s0 s1 s2 x (ix3 0 i j)) b

theorem sums2_at (n : Fin 32) (b : Fin 64) : sums2 (F := Ideal) s0 s1 s2 x (ix2 n b) = K.b2 (win (quant (F := Ideal) s0 s1 s2 x) b) n := by
  unfold sums2
  pointwise [k1_pay14]
  simp only [base2_at]
  exact gather_sum (fun j => ∑ i, quant (F := Ideal) s0 s1 s2 x (ix3 n i j) * quant (F := Ideal) s0 s1 s2 x (ix3 1 i j)) b

theorem sum1_at (b : Fin 64) : sum1 (F := Ideal) s0 s1 s2 x (ix1 b) = K.b3 (win (quant (F := Ideal) s0 s1 s2 x) b) 0 := by
  rw [← sums3_at]; unfold sum1; pointwise [k1_pay15]
theorem sum2_at (b : Fin 64) : sum2 (F := Ideal) s0 s1 s2 x (ix1 b) = K.b3 (win (quant (F := Ideal) s0 s1 s2 x) b) 1 := by
  rw [← sums3_at]; unfold sum2; pointwise [k1_pay16]
theorem sum11_at (b : Fin 64) : sum11 (F := Ideal) s0 s1 s2 x (ix1 b) = K.b1 (win (quant (F := Ideal) s0 s1 s2 x) b) 0 := by
  rw [← sums1_at]; unfold sum11 sums1; pointwise [k1_pay17]
theorem sum12_at (b : Fin 64) : sum12 (F := Ideal) s0 s1 s2 x (ix1 b) = K.b1 (win (quant (F := Ideal) s0 s1 s2 x) b) 1 := by
  rw [← sums1_at]; unfold sum12 sums1; pointwise [k1_pay18]
theorem sum22_at (b : Fin 64) : sum22 (F := Ideal) s0 s1 s2 x (ix1 b) = K.b2 (win (quant (F := Ideal) s0 s1 s2 x) b) 1 := by
  rw [← sums2_at]; unfold sum22 sums2; pointwise [k1_pay19]

/-- The printed determinant. -/
theorem det_at (b : Fin 64) :
    k1_pay20 (F := Ideal) (quant s0 s1 s2 x) (base2 s0 s1 s2 x) gather (sums3 s0 s1 s2 x) (rows1 s0 s1 s2 x) (ix1 b) = K.det (win (quant (F := Ideal) s0 s1 s2 x) b) := by
  have h1 := sum1_at s0 s1 s2 x b; have h2 := sum2_at s0 s1 s2 x b; have h3 := sum11_at s0 s1 s2 x b
  have h4 := sum12_at s0 s1 s2 x b; have h5 := sum22_at s0 s1 s2 x b
  unfold sum1 at h1; unfold sum2 at h2; unfold sum11 at h3; unfold sum12 at h4; unfold sum22 at h5
  pointwise [k1_pay20]
  rw [h1, h2, h3, h4, h5]; rfl

open Classical in
theorem sing_at (b : Fin 64) : sing (F := Ideal) s0 s1 s2 x (ix1 b) = BitVec.ofBool (decide (K.det (win (quant (F := Ideal) s0 s1 s2 x) b) = 0)) := by
  unfold sing; pointwise [k1_pay21]; rw [det_at]

theorem idet_at (b : Fin 64) : idet (F := Ideal) s0 s1 s2 x (ix1 b) = K.idet (win (quant (F := Ideal) s0 s1 s2 x) b) := by
  have h := sing_at s0 s1 s2 x b
  unfold sing at h
  unfold idet; pointwise [k1_pay22]
  rw [h, det_at]; unfold K.idet; by_cases hd : K.det (win (quant (F := Ideal) s0 s1 s2 x) b) = 0 <;> simp [hd, Scalar.select]

theorem inv00_at (b : Fin 64) : inv00 (F := Ideal) s0 s1 s2 x (ix1 b) = K.i00 (win (quant (F := Ideal) s0 s1 s2 x) b) := by
  have h := sing_at s0 s1 s2 x b; have h1 := idet_at s0 s1 s2 x b
  have h2 := sum2_at s0 s1 s2 x b; have h5 := sum22_at s0 s1 s2 x b
  unfold sing at h; unfold idet at h1; unfold sum2 at h2; unfold sum22 at h5
  unfold inv00; pointwise [k1_pay23]
  rw [h, h1, h2, h5]; unfold K.i00; by_cases hd : K.det (win (quant (F := Ideal) s0 s1 s2 x) b) = 0 <;> simp [hd, Scalar.select, K.npt]

theorem minor01_at (b : Fin 64) : minor01 (F := Ideal) s0 s1 s2 x (ix1 b) = K.b3 (win (quant (F := Ideal) s0 s1 s2 x) b) 0 * K.b3 (win (quant (F := Ideal) s0 s1 s2 x) b) 1 - K.b1 (win (quant (F := Ideal) s0 s1 s2 x) b) 1 * K.npt := by
  have h1 := sum1_at s0 s1 s2 x b; have h2 := sum2_at s0 s1 s2 x b; have h4 := sum12_at s0 s1 s2 x b
  unfold sum1 at h1; unfold sum2 at h2; unfold sum12 at h4
  unfold minor01; pointwise [k1_pay24]
  rw [h1, h2, h4]; rfl

theorem inv01_at (b : Fin 64) : inv01 (F := Ideal) s0 s1 s2 x (ix1 b) = K.i01 (win (quant (F := Ideal) s0 s1 s2 x) b) := by
  unfold inv01; pointwise [k1_pay25]
  rw [sing_at, idet_at, minor01_at]; unfold K.i01; by_cases hd : K.det (win (quant (F := Ideal) s0 s1 s2 x) b) = 0 <;> simp [hd, Scalar.select]
theorem inv02_at (b : Fin 64) : inv02 (F := Ideal) s0 s1 s2 x (ix1 b) = K.i02 (win (quant (F := Ideal) s0 s1 s2 x) b) := by
  unfold inv02; pointwise [k1_pay26]
  rw [sing_at, idet_at, sum1_at, sum2_at, sum12_at, sum22_at]; unfold K.i02; by_cases hd : K.det (win (quant (F := Ideal) s0 s1 s2 x) b) = 0 <;> simp [hd, Scalar.select]
theorem inv11_at (b : Fin 64) : inv11 (F := Ideal) s0 s1 s2 x (ix1 b) = K.i11 (win (quant (F := Ideal) s0 s1 s2 x) b) := by
  unfold inv11; pointwise [k1_pay27]
  rw [sing_at, idet_at, sum1_at, sum11_at]; unfold K.i11; by_cases hd : K.det (win (quant (F := Ideal) s0 s1 s2 x) b) = 0 <;> simp [hd, Scalar.select, K.npt]
theorem inv12_at (b : Fin 64) : inv12 (F := Ideal) s0 s1 s2 x (ix1 b) = K.i12 (win (quant (F := Ideal) s0 s1 s2 x) b) := by
  unfold inv12; pointwise [k1_pay28]
  rw [sing_at, idet_at, sum1_at, sum2_at, sum11_at, sum12_at]; unfold K.i12; by_cases hd : K.det (win (quant (F := Ideal) s0 s1 s2 x) b) = 0 <;> simp [hd, Scalar.select]
theorem inv22_at (b : Fin 64) : inv22 (F := Ideal) s0 s1 s2 x (ix1 b) = K.i22 (win (quant (F := Ideal) s0 s1 s2 x) b) := by
  unfold inv22; pointwise [k1_pay29]
  rw [sing_at, idet_at, sum11_at, sum12_at, sum22_at]; unfold K.i22; by_cases hd : K.det (win (quant (F := Ideal) s0 s1 s2 x) b) = 0 <;> simp [hd, Scalar.select]

theorem coef0_at (n : Fin 32) (b : Fin 64) :
    coef0 (F := Ideal) s0 s1 s2 x (ix2 n b) = K.sanUp (K.i00 (win (quant (F := Ideal) s0 s1 s2 x) b) * K.b1 (win (quant (F := Ideal) s0 s1 s2 x) b) n + K.i01 (win (quant (F := Ideal) s0 s1 s2 x) b) * K.b2 (win (quant (F := Ideal) s0 s1 s2 x) b) n + K.i02 (win (quant (F := Ideal) s0 s1 s2 x) b) * K.b3 (win (quant (F := Ideal) s0 s1 s2 x) b) n) := by
  have h1 := inv01_at s0 s1 s2 x b; have h2 := inv02_at s0 s1 s2 x b
  unfold inv01 at h1; unfold inv02 at h2
  unfold coef0; pointwise [k1_pay30]
  rw [h1, h2, sums1_at, sums2_at, sums3_at, inv00_at]; rfl

theorem lanes0_at (n : Fin 32) (b : Fin 64) (l : Fin 8) : lanes0 (F := Ideal) s0 s1 s2 x (ix2 n (col b l)) = K.c0 (win (quant (F := Ideal) s0 s1 s2 x) b) n := by
  unfold lanes0; pointwise [k1_pay34]
  rw [expand_sum (fun b' => Scalar.select (coef0up s0 s1 s2 x (ix2 n b')) (k1_pay32 (F := Ideal) (ix2 n b')) (coef0 s0 s1 s2 x (ix2 n b')))]
  have h := coef0_at s0 s1 s2 x n b
  have h' := h; unfold coef0 at h'
  rw [h]; unfold coef0up; pointwise [k1_pay31, k1_pay32]
  rw [h']; unfold K.c0 K.san K.nbig; split <;> simp_all [Scalar.select]

theorem lanes1_at (n : Fin 32) (b : Fin 64) (l : Fin 8) : lanes1 (F := Ideal) s0 s1 s2 x (ix2 n (col b l)) = K.c1 (win (quant (F := Ideal) s0 s1 s2 x) b) n := by
  unfold lanes1; pointwise [k1_pay35]
  simp only [inv01_at, inv11_at, inv12_at, sums1_at, sums2_at, sums3_at]
  exact expand_sum (fun b' => K.c1 (win (quant (F := Ideal) s0 s1 s2 x) b') n) b l

theorem coef2_at (n : Fin 32) (b : Fin 64) : coef2 (F := Ideal) s0 s1 s2 x (ix2 n b) = K.c2 (win (quant (F := Ideal) s0 s1 s2 x) b) n := by
  unfold coef2; pointwise [k1_pay33]
  simp only [inv02_at, inv12_at, inv22_at, sums1_at, sums2_at, sums3_at]
  rfl

/-! ## The fit and its loss -/

theorem fit_at (n : Fin 32) (i : Fin 8) (b : Fin 64) (l : Fin 8) :
    fit (F := Ideal) s0 s1 s2 s3 s4 x (ix3 n i (col b l)) = K.fitq s3 s4 (win (quant (F := Ideal) s0 s1 s2 x) b) n i l := by
  unfold fit; pointwise [k1_pay36]
  rw [lanes0_at, lanes1_at, expand_sum (fun b' => coef2 (F := Ideal) s0 s1 s2 x (ix2 n b')), coef2_at, base1_at, base2_at]; rfl

theorem loss_at (n : Fin 32) (b : Fin 64) (l : Fin 8) :
    loss (F := Ideal) s0 s1 s2 s3 s4 x (ix2 n (col b l)) = K.loss s3 s4 (win (quant (F := Ideal) s0 s1 s2 x) b) n := by
  have h := fit_at s0 s1 s2 s3 s4 x; unfold fit at h
  unfold loss; pointwise [k1_pay37]
  rw [expand_sum (fun b' => ∑ j, (∑ i, (quant (F := Ideal) s0 s1 s2 x (ix3 n i j) - k1_pay36 s3 s4 (base1 s0 s1 s2 x) (base2 s0 s1 s2 x) expand (coef2 s0 s1 s2 x) (lanes0 s0 s1 s2 x) (lanes1 s0 s1 s2 x) (constant S32x512 .f32 0x00000000#32) (ix3 n i j)) * (quant (F := Ideal) s0 s1 s2 x (ix3 n i j) - k1_pay36 s3 s4 (base1 s0 s1 s2 x) (base2 s0 s1 s2 x) expand (coef2 s0 s1 s2 x) (lanes0 s0 s1 s2 x) (lanes1 s0 s1 s2 x) (constant S32x512 .f32 0x00000000#32) (ix3 n i j))) * gather (F := Ideal) (ix2 j b'))]
  rw [gather_sum (fun j => ∑ i, _)]
  simp only [h]; rfl

end

end Cert.Kwin
-- ==== Proof.Kseg.lean ====
/-
  The extremes of the base images over a lane's window, as the kernel takes them: every lane first meets the seven lanes
  after it (by doubling), only the windows' first lanes are kept, and every lane then meets the seven lanes before it.
-/
module

public import proofs.«01_k».proof.Proof.Kwin

@[expose] public section

set_option maxRecDepth 16384

noncomputable section

namespace Cert.Kwin

open Idealize.ShloMosaic Cert.KernelIdeal Cert.KernelIdeal.Gen
open Cert.KernelIdeal.Fit (max1 min1 max2 base1 base2 quant rem8)

/-! ## Turned rows -/

/-- The rows turned by `s` lanes: lane `j` holds what lane `j + s` held. -/
def turn (s : Fin 512) (a : FVec Ideal S8x512 .f32) : FVec Ideal S8x512 .f32 := fun j => a (ix2 (j 0) (Fin.add (j 1) s))

theorem turn_at (s : Fin 512) (a : FVec Ideal S8x512 .f32) (i : Fin 8) (j : Fin 512) : turn s a (ix2 i j) = a (ix2 i (j + s)) := rfl

variable (a : FVec Ideal S8x512 .f32)

theorem turn_1 : concatenate S8x512 1 [⟨S8x511, extractStridedSlice S8x511 ![0, 1] a slices_S8x512_o0_1_S8x511⟩, ⟨S8x1, extractStridedSlice S8x1 ![0, 0] a slices_S8x512_o0_0_S8x1⟩] concatenates_S8x511_S8x1_S8x512_d1 = turn 1 a := by
  funext j; idx_vars j; rw [turn_at]; pointwise
  split <;> congr 2 <;> simp [Fin.ext_iff, Fin.val_add] <;> omega
theorem turn_2 : concatenate S8x512 1 [⟨S8x510, extractStridedSlice S8x510 ![0, 2] a slices_S8x512_o0_2_S8x510⟩, ⟨S8x2, extractStridedSlice S8x2 ![0, 0] a slices_S8x512_o0_0_S8x2⟩] concatenates_S8x510_S8x2_S8x512_d1 = turn 2 a := by
  funext j; idx_vars j; rw [turn_at]; pointwise
  split <;> congr 2 <;> simp [Fin.ext_iff, Fin.val_add] <;> omega
theorem turn_4 : concatenate S8x512 1 [⟨S8x508, extractStridedSlice S8x508 ![0, 4] a slices_S8x512_o0_4_S8x508⟩, ⟨S8x4, extractStridedSlice S8x4 ![0, 0] a slices_S8x512_o0_0_S8x4⟩] concatenates_S8x508_S8x4_S8x512_d1 = turn 4 a := by
  funext j; idx_vars j; rw [turn_at]; pointwise
  split <;> congr 2 <;> simp [Fin.ext_iff, Fin.val_add] <;> omega
theorem turn_511 : concatenate S8x512 1 [⟨S8x1, extractStridedSlice S8x1 ![0, 511] a slices_S8x512_o0_511_S8x1⟩, ⟨S8x511, extractStridedSlice S8x511 ![0, 0] a slices_S8x512_o0_0_S8x511⟩] concatenates_S8x1_S8x511_S8x512_d1 = turn 511 a := by
  funext j; idx_vars j; rw [turn_at]; pointwise
  split <;> congr 2 <;> simp [Fin.ext_iff, Fin.val_add] <;> omega
theorem turn_510 : concatenate S8x512 1 [⟨S8x2, extractStridedSlice S8x2 ![0, 510] a slices_S8x512_o0_510_S8x2⟩, ⟨S8x510, extractStridedSlice S8x510 ![0, 0] a slices_S8x512_o0_0_S8x510⟩] concatenates_S8x2_S8x510_S8x512_d1 = turn 510 a := by
  funext j; idx_vars j; rw [turn_at]; pointwise
  split <;> congr 2 <;> simp [Fin.ext_iff, Fin.val_add] <;> omega
theorem turn_508 : concatenate S8x512 1 [⟨S8x4, extractStridedSlice S8x4 ![0, 508] a slices_S8x512_o0_508_S8x4⟩, ⟨S8x508, extractStridedSlice S8x508 ![0, 0] a slices_S8x512_o0_0_S8x508⟩] concatenates_S8x4_S8x508_S8x512_d1 = turn 508 a := by
  funext j; idx_vars j; rw [turn_at]; pointwise
  split <;> congr 2 <;> simp [Fin.ext_iff, Fin.val_add] <;> omega

/-- The bit that marks the first lane of a window. -/
theorem first_lane : ∀ j : Fin 512,
    IntOp.cmpi CmpIPredicate.eq (Scalar.select
      (IntOp.andi
        (IntOp.xori
          (IntOp.cmpi CmpIPredicate.slt (IntOp.remsi ArithUnit.vector (BitVec.ofNat 32 ↑j) 8#32) 0#32)
          (Scalar.cmpi CmpIPredicate.slt 8#32 0#32))
        (IntOp.cmpi CmpIPredicate.ne (IntOp.remsi ArithUnit.vector (BitVec.ofNat 32 ↑j) 8#32) 0#32))
      (IntOp.addi (IntOp.remsi ArithUnit.vector (BitVec.ofNat 32 ↑j) 8#32) 8#32)
      (IntOp.remsi ArithUnit.vector (BitVec.ofNat 32 ↑j) 8#32)) 0#32 = BitVec.ofBool (decide ((j : ℕ) % 8 = 0)) := by
  decide +kernel

theorem rem8_eq : rem8 = 8#32 := by decide

/-- Every lane meets the seven after it. -/
def aheadMax : FVec Ideal S8x512 .f32 :=
  maximumf (maximumf (maximumf a (turn 1 a)) (turn 2 (maximumf a (turn 1 a)))) (turn 4 (maximumf (maximumf a (turn 1 a)) (turn 2 (maximumf a (turn 1 a)))))
def aheadMin : FVec Ideal S8x512 .f32 :=
  minimumf (minimumf (minimumf a (turn 1 a)) (turn 2 (minimumf a (turn 1 a)))) (turn 4 (minimumf (minimumf a (turn 1 a)) (turn 2 (minimumf a (turn 1 a)))))
/-- Every lane meets the seven before it. -/
def behindMax : FVec Ideal S8x512 .f32 :=
  maximumf (maximumf (maximumf a (turn 511 a)) (turn 510 (maximumf a (turn 511 a)))) (turn 508 (maximumf (maximumf a (turn 511 a)) (turn 510 (maximumf a (turn 511 a)))))
def behindMin : FVec Ideal S8x512 .f32 :=
  minimumf (minimumf (minimumf a (turn 511 a)) (turn 510 (minimumf a (turn 511 a)))) (turn 508 (minimumf (minimumf a (turn 511 a)) (turn 510 (minimumf a (turn 511 a)))))
/-- Only the windows' first lanes are kept. -/
def firsts (z : EReal) : FVec Ideal S8x512 .f32 := fun j => if ((j 1 : Fin 512) : ℕ) % 8 = 0 then a j else z

theorem pay38_eq : k1_pay38 (F := Ideal) a = aheadMax a := by
  unfold k1_pay38 aheadMax; simp only [turn_1, turn_2, turn_4]
theorem pay42_eq : k1_pay42 (F := Ideal) a = aheadMin a := by
  unfold k1_pay42 aheadMin; simp only [turn_1, turn_2, turn_4]

theorem top_word : Ideal.ofBits .f32 0x7F800000#32 = ⊤ := by
  simp [Ideal.ofBits, Ideal.ieee]
theorem bot_word : Ideal.ofBits .f32 0xFF800000#32 = ⊥ := by
  simp [Ideal.ofBits, Ideal.ieee]

theorem firsts_at (z : EReal) (i : Fin 8) (j : Fin 512) : firsts a z (ix2 i j) = if (j : ℕ) % 8 = 0 then a (ix2 i j) else z := rfl

theorem pay41_at (j : Fin 512) :
    k1_pay41 (F := Ideal) a rem8 k1_pay39 k1_pay40 (ix1 j) = Finset.univ.fold max ⊥ fun i : Fin 8 => behindMax (firsts a ⊥) (ix2 i j) := by
  have hs : select (cmpi .eq (select k1_pay40 (addi k1_pay39 (broadcast S8x512 rem8)) k1_pay39) (broadcast S8x512 0#32)) a
      (broadcast S8x512 (Scalar.ofBits (F := Ideal) .f32 0xFF800000#32)) = firsts a ⊥ := by
    funext j; idx_vars j; rw [firsts_at, ← bot_word]
    pointwise [k1_pay39, k1_pay40]
    have h8 : Scalar.select (Scalar.cmpi CmpIPredicate.eq 8#32 0#32) 1#32 8#32 = 8#32 := by decide
    rw [rem8_eq, h8, first_lane]
    split <;> simp_all [Scalar.select]
  unfold k1_pay41; simp only [turn_511, turn_510, turn_508, hs]
  rw [← bot_word]
  change multiReduction (F := Ideal) .maximumf [0] S512 (behindMax (firsts a (Ideal.ofBits .f32 0xFF800000#32))) 0xFF800000#32 reduces_S8x512_S512 (.inl rfl) rfl (ix1 j) = _
  pointwise

theorem pay45_at (j : Fin 512) :
    k1_pay45 (F := Ideal) a k1_pay43 k1_pay44 (ix1 j) = Finset.univ.fold min ⊤ fun i : Fin 8 => behindMin (firsts a ⊤) (ix2 i j) := by
  have hs : select (cmpi .eq k1_pay43 k1_pay44) a
      (broadcast S8x512 (Scalar.ofBits (F := Ideal) .f32 0x7F800000#32)) = firsts a ⊤ := by
    funext j; idx_vars j; rw [firsts_at, ← top_word]
    pointwise [k1_pay43, k1_pay44]
    have h8 : Scalar.select (Scalar.cmpi CmpIPredicate.eq 8#32 0#32) 1#32 8#32 = 8#32 := by decide
    rw [h8, first_lane]
    split <;> simp_all [Scalar.select]
  unfold k1_pay45; simp only [turn_511, turn_510, turn_508, hs]
  rw [← top_word]
  change multiReduction (F := Ideal) .minimumf [0] S512 (behindMin (firsts a (Ideal.ofBits .f32 0x7F800000#32))) 0x7F800000#32 reduces_S8x512_S512 (.inl rfl) rfl (ix1 j) = _
  pointwise

theorem pay48_at (j : Fin 512) :
    k1_pay48 (F := Ideal) (k1_pay46 a) (k1_pay47 a) (ix1 j) = Finset.univ.fold max ⊥ fun i : Fin 8 => behindMax (firsts (aheadMax a) ⊥) (ix2 i j) := by
  have hs : k1_pay46 (F := Ideal) a = firsts (aheadMax a) ⊥ := by
    unfold k1_pay46; simp only [turn_1, turn_2, turn_4]
    change select _ (aheadMax a) _ = _
    funext j; idx_vars j; rw [firsts_at, ← bot_word]
    pointwise
    have h8 : Scalar.select (Scalar.cmpi CmpIPredicate.eq 8#32 0#32) 1#32 8#32 = 8#32 := by decide
    rw [h8, first_lane]
    split <;> simp_all [Scalar.select]
  unfold k1_pay48 k1_pay47; simp only [turn_511, turn_510, turn_508, hs]
  rw [← bot_word]
  change multiReduction (F := Ideal) .maximumf [0] S512 (behindMax (firsts (aheadMax a) (Ideal.ofBits .f32 0xFF800000#32))) 0xFF800000#32 reduces_S8x512_S512 (.inl rfl) rfl (ix1 j) = _
  pointwise

/-- The minimum of the second base image, of which the body's last value takes the last two turns. -/
theorem pay49_eq : k1_pay49 (F := Ideal) a = minimumf (firsts (aheadMin a) ⊤) (turn 511 (firsts (aheadMin a) ⊤)) := by
  unfold k1_pay49; simp only [turn_1, turn_2, turn_4, turn_511]
  have hs : ∀ c, c = aheadMin a → select (cmpi .eq k1_pay43 k1_pay44) c (broadcast S8x512 (Scalar.ofBits (F := Ideal) .f32 0x7F800000#32)) = firsts (aheadMin a) ⊤ := by
    rintro c rfl
    funext j; idx_vars j; rw [firsts_at, ← top_word]
    pointwise [k1_pay43, k1_pay44]
    have h8 : Scalar.select (Scalar.cmpi CmpIPredicate.eq 8#32 0#32) 1#32 8#32 = 8#32 := by decide
    rw [h8, first_lane]
    split <;> simp_all [Scalar.select]
  rw [← hs _ rfl]; rfl

end Cert.Kwin
-- ==== Proof.Kext.lean ====
/-
  The extremes of a base image over a window: what the turns of `Kseg` take is the supremum and the infimum over the
  window's rows and lanes.
-/
module

public import proofs.«01_k».proof.Proof.Kseg

@[expose] public section

set_option maxRecDepth 16384

noncomputable section

namespace Cert.Kwin

open Idealize.ShloMosaic Cert.KernelIdeal Cert.KernelIdeal.Gen
open Cert.KernelIdeal.Fit (max1 min1 max2 base1 base2 quant rem8)

variable (a : FVec Ideal S8x512 .f32)

/-! ## The extremes over a window -/

theorem offs (j : Fin 512) : j + 510 + 511 = j + 509 ∧ j + 508 + 511 = j + 507 ∧ j + 508 + 510 = j + 506 ∧ j + 506 + 511 = j + 505 := by
  simp only [add_assoc]
  exact ⟨rfl, rfl, rfl, rfl⟩
theorem forall8 (P : Fin 8 → Prop) : (∀ l, P l) ↔ P 0 ∧ P 1 ∧ P 2 ∧ P 3 ∧ P 4 ∧ P 5 ∧ P 6 ∧ P 7 :=
  ⟨fun h => ⟨h _, h _, h _, h _, h _, h _, h _, h _⟩, fun ⟨h0, h1, h2, h3, h4, h5, h6, h7⟩ l => by fin_cases l <;> assumption⟩
/-- The distances to the eight lanes at and before a lane, around the row. -/
def backs : List (Fin 512) := [0, 511, 510, 509, 508, 507, 506, 505]
theorem backs_val : ∀ o ∈ backs, (o : ℕ) = 0 ∨ 505 ≤ (o : ℕ) := by decide
theorem backs_mem : ∀ l : Fin 8, ∃ o ∈ backs, (o : ℕ) = (512 - l) % 512 := by decide
theorem col_add (b : Fin 64) (l : Fin 8) (o : Fin 512) : ((col b l + o : Fin 512) : ℕ) = (8 * b + l + o) % 512 := Fin.val_add _ _
/-- Of the eight lanes at and before a lane, the one that is first in a window is the first of the lane's window. -/
theorem first_of (b : Fin 64) (l : Fin 8) (o : Fin 512) (ho : o ∈ backs) (hm : ((col b l + o : Fin 512) : ℕ) % 8 = 0) : col b l + o = col b 0 := by
  have h := backs_val o ho
  apply Fin.ext
  rw [col_add] at hm ⊢
  change _ = 8 * (b : ℕ) + 0
  omega
theorem first_mem (b : Fin 64) (l : Fin 8) : ∃ o ∈ backs, col b l + o = col b 0 := by
  obtain ⟨o, ho, h⟩ := backs_mem l
  refine ⟨o, ho, ?_⟩
  apply Fin.ext
  rw [col_add]
  change _ = 8 * (b : ℕ) + 0
  omega
theorem first_mod (b : Fin 64) : ((col b 0 : Fin 512) : ℕ) % 8 = 0 := by simp [col]
theorem ahead_of : ∀ b : Fin 64, col b 0 + 1 = col b 1 ∧ col b 0 + 2 = col b 2 ∧ col b 2 + 1 = col b 3 ∧ col b 0 + 4 = col b 4 ∧ col b 4 + 1 = col b 5
    ∧ col b 4 + 2 = col b 6 ∧ col b 6 + 1 = col b 7 := by
  intro b
  refine ⟨?_, ?_, ?_, ?_, ?_, ?_, ?_⟩ <;> apply Fin.ext <;> rw [col_add]
  · change (8 * (b : ℕ) + 0 + 1) % 512 = 8 * (b : ℕ) + 1; omega
  · change (8 * (b : ℕ) + 0 + 2) % 512 = 8 * (b : ℕ) + 2; omega
  · change (8 * (b : ℕ) + 2 + 1) % 512 = 8 * (b : ℕ) + 3; omega
  · change (8 * (b : ℕ) + 0 + 4) % 512 = 8 * (b : ℕ) + 4; omega
  · change (8 * (b : ℕ) + 4 + 1) % 512 = 8 * (b : ℕ) + 5; omega
  · change (8 * (b : ℕ) + 4 + 2) % 512 = 8 * (b : ℕ) + 6; omega
  · change (8 * (b : ℕ) + 6 + 1) % 512 = 8 * (b : ℕ) + 7; omega

theorem aheadMax_le (i : Fin 8) (b : Fin 64) (y : EReal) : aheadMax a (ix2 i (col b 0)) ≤ y ↔ ∀ l, a (ix2 i (col b l)) ≤ y := by
  obtain ⟨h1, h2, h3, h4, h5, h6, h7⟩ := ahead_of b
  unfold aheadMax
  simp only [maximumf_apply, Ideal.maximumf_def, turn_at, max_le_iff, h1, h2, h3, h4, h5, h6, h7, forall8, and_assoc]

theorem behindMax_le (i : Fin 8) (b : Fin 64) (l : Fin 8) (y : EReal) : behindMax (firsts a ⊥) (ix2 i (col b l)) ≤ y ↔ a (ix2 i (col b 0)) ≤ y := by
  have hf : ∀ j, firsts a ⊥ (ix2 i j) ≤ y ↔ ((j : ℕ) % 8 = 0 → a (ix2 i j) ≤ y) := by
    intro j; rw [firsts_at]; split <;> simp_all
  have hall : behindMax (firsts a ⊥) (ix2 i (col b l)) ≤ y ↔ ∀ o ∈ backs, (((col b l + o : Fin 512) : ℕ) % 8 = 0 → a (ix2 i (col b l + o)) ≤ y) := by
    obtain ⟨h1, h2, h3, h4⟩ := offs (col b l)
    unfold behindMax
    simp only [maximumf_apply, Ideal.maximumf_def, turn_at, max_le_iff, hf, h1, h2, h3, h4, backs, List.forall_mem_cons, add_zero, and_assoc, List.not_mem_nil, false_imp_iff, implies_true, and_true]
  rw [hall]
  constructor
  · intro h; obtain ⟨o, ho, he⟩ := first_mem b l
    have := h o ho; rw [he] at this; exact this (first_mod b)
  · intro h o ho hm; rw [first_of b l o ho hm]; exact h

theorem windowMax_eq (b : Fin 64) (l : Fin 8) :
    (Finset.univ.fold max ⊥ fun i : Fin 8 => behindMax (firsts (aheadMax a) ⊥) (ix2 i (col b l))) = ⨆ i, ⨆ l', a (ix2 i (col b l')) := by
  refine eq_of_forall_ge_iff fun y => ?_
  rw [Finset.fold_max_le]
  simp only [behindMax_le, aheadMax_le, iSup_le_iff, bot_le, Finset.mem_univ, true_imp_iff, true_and]

theorem le_aheadMin (i : Fin 8) (b : Fin 64) (y : EReal) : y ≤ aheadMin a (ix2 i (col b 0)) ↔ ∀ l, y ≤ a (ix2 i (col b l)) := by
  obtain ⟨h1, h2, h3, h4, h5, h6, h7⟩ := ahead_of b
  unfold aheadMin
  simp only [minimumf_apply, Ideal.minimumf_def, turn_at, le_min_iff, h1, h2, h3, h4, h5, h6, h7, forall8, and_assoc]

theorem le_behindMin (i : Fin 8) (b : Fin 64) (l : Fin 8) (y : EReal) : y ≤ behindMin (firsts a ⊤) (ix2 i (col b l)) ↔ y ≤ a (ix2 i (col b 0)) := by
  have hf : ∀ j, y ≤ firsts a ⊤ (ix2 i j) ↔ ((j : ℕ) % 8 = 0 → y ≤ a (ix2 i j)) := by
    intro j; rw [firsts_at]; split <;> simp_all
  have hall : y ≤ behindMin (firsts a ⊤) (ix2 i (col b l)) ↔ ∀ o ∈ backs, (((col b l + o : Fin 512) : ℕ) % 8 = 0 → y ≤ a (ix2 i (col b l + o))) := by
    obtain ⟨h1, h2, h3, h4⟩ := offs (col b l)
    unfold behindMin
    simp only [minimumf_apply, Ideal.minimumf_def, turn_at, le_min_iff, hf, h1, h2, h3, h4, backs, List.forall_mem_cons, add_zero, and_assoc, List.not_mem_nil, false_imp_iff, implies_true, and_true]
  rw [hall]
  constructor
  · intro h; obtain ⟨o, ho, he⟩ := first_mem b l
    have := h o ho; rw [he] at this; exact this (first_mod b)
  · intro h o ho hm; rw [first_of b l o ho hm]; exact h

theorem windowMin_eq (b : Fin 64) (l : Fin 8) :
    (Finset.univ.fold min ⊤ fun i : Fin 8 => behindMin (firsts (aheadMin a) ⊤) (ix2 i (col b l))) = ⨅ i, ⨅ l', a (ix2 i (col b l')) := by
  refine eq_of_forall_le_iff fun y => ?_
  rw [Finset.le_fold_min]
  simp only [le_behindMin, le_aheadMin, le_iInf_iff, le_top, Finset.mem_univ, true_imp_iff, true_and]

end Cert.Kwin
-- ==== Proof.Kout.lean ====
/-
  What the fitting body stores, at one index: the value kept of the quantised window, with the left neighbour added back.
-/
module

public import proofs.«01_k».proof.Proof.Kext

@[expose] public section

set_option maxRecDepth 16384

noncomputable section

namespace Cert.Kwin

open Idealize.ShloMosaic Cert.KernelIdeal Cert.KernelIdeal.Gen
open Cert.KernelIdeal.Fit (left quant fit loss out max1 min1 max2 base1 base2 rem8)

theorem select_both (p q : Prop) [Decidable p] [Decidable q] (x y : EReal) :
    Scalar.select (IntOp.andi (BitVec.ofBool (decide p)) (BitVec.ofBool (decide q))) x y = if p ∧ q then x else y := by
  by_cases hp : p <;> by_cases hq : q <;> simp [hp, hq, Scalar.select, IntOp.andi]

/-- The body's last value: its choice between the fitted and the given values, and the left neighbours added. -/
theorem pay1_at (a b c : FVec Ideal S32x8x512 .f32) (d : FVec Ideal S32x512 .f32) (e f g : FVec Ideal S512 .f32) (h : FVec Ideal S8x512 .f32)
    (i : Fin 32) (r : Fin 8) (j : Fin 512) :
    k1_pay1 (F := Ideal) a b c d e f g (k1_pay49 h) (k1_pay50 h) (k1_pay51 h) (ix3 i r j)
      = (if (if e (ix1 j) - f (ix1 j) < Plane.flat ∧ g (ix1 j) - (Finset.univ.fold min ⊤ fun i : Fin 8 => behindMin (firsts (aheadMin h) ⊤) (ix2 i j)) < Plane.flat
          then Plane.two else d (ix2 i j)) ≤ 1 then c (ix3 i r j) else b (ix3 i r j)) + a (ix3 i r j) := by
  unfold k1_pay1 k1_pay50 k1_pay51
  simp only [turn_510, turn_508, pay49_eq]
  pointwise
  simp only [select_both, top_word]
  rfl

variable (s0 s1 s2 s3 s4 : EReal) (x : Vec Ideal S32x8x512 .f32)

theorem max1_at (b : Fin 64) (l : Fin 8) : max1 (F := Ideal) s0 s1 s2 x (ix1 (col b l)) = Plane.top (win (quant (F := Ideal) s0 s1 s2 x) b) 0 := by
  unfold max1 Plane.top win
  rw [pay38_eq, pay41_at, windowMax_eq]
  simp only [base1_at]
theorem min1_at (b : Fin 64) (l : Fin 8) : min1 (F := Ideal) s0 s1 s2 x (ix1 (col b l)) = Plane.bot (win (quant (F := Ideal) s0 s1 s2 x) b) 0 := by
  unfold min1 Plane.bot win
  rw [pay42_eq, pay45_at, windowMin_eq]
  simp only [base1_at]
theorem max2_at (b : Fin 64) (l : Fin 8) : max2 (F := Ideal) s0 s1 s2 x (ix1 (col b l)) = Plane.top (win (quant (F := Ideal) s0 s1 s2 x) b) 1 := by
  unfold max2 Plane.top win
  rw [pay48_at, windowMax_eq]
  simp only [base2_at]

/-- What the body stores at image `n`, row `i` and lane `l` of window `b`. -/
theorem out_at (n : Fin 32) (i : Fin 8) (b : Fin 64) (l : Fin 8) :
    out (F := Ideal) s0 s1 s2 s3 s4 x (ix3 n i (col b l))
      = K.keep s3 s4 (win (quant (F := Ideal) s0 s1 s2 x) b) n i l + left (F := Ideal) x (ix3 n i (col b l)) := by
  have h2 : (Finset.univ.fold min ⊤ fun i : Fin 8 => behindMin (firsts (aheadMin (base2 (F := Ideal) s0 s1 s2 x)) ⊤) (ix2 i (col b l)))
      = Plane.bot (win (quant (F := Ideal) s0 s1 s2 x) b) 1 := by
    rw [windowMin_eq]; unfold Plane.bot win; simp only [base2_at]
  unfold out
  rw [pay1_at, max1_at, min1_at, max2_at, h2, fit_at, loss_at]
  unfold K.keep Plane.isFlat win
  congr 1
  split_ifs <;> simp_all

/-- The left neighbour, and the quantised difference from it. -/
theorem left_at (n : Fin 32) (i : Fin 8) (j : Fin 512) :
    left (F := Ideal) x (ix3 n i j) = if h : (j : ℕ) < 1 then 0 else x (ix3 n i ⟨(j : ℕ) - 1, by omega⟩) := by
  unfold left; pointwise [k1_pay3, k1_pay2]
theorem quant_at (n : Fin 32) (i : Fin 8) (j : Fin 512) :
    quant (F := Ideal) s0 s1 s2 x (ix3 n i j) = Plane.rne ((x (ix3 n i j) - left (F := Ideal) x (ix3 n i j) - s0) * s1) * s2 + s0 := by
  unfold quant left Plane.rne; pointwise [k1_pay4, k1_pay2]

end Cert.Kwin
-- ==== Proof.Kpic.lean ====
/-
  What the fitting body stores for a band of the stack, and the kernel's result as one function of the stack.
-/
module

public import proofs.«01_k».proof.Proof.Kout
public import proofs.«01_k».proof.Proof.Scale

@[expose] public section

set_option maxRecDepth 16384

noncomputable section

namespace Cert

open Idealize.ShloMosaic Cert.KernelIdeal Cert.KernelIdeal.Gen

/-- The window of a row or lane, and its place in the window. -/
def Plane.blk (r : Fin 512) : Fin 64 := ⟨r / 8, by omega⟩
def Plane.off (r : Fin 512) : Fin 8 := ⟨r % 8, by omega⟩

theorem Plane.blk_at8 (b : Fin 64) (i : Fin 8) : Plane.blk (Plane.at8 b i) = b := by
  apply Fin.ext; show (8 * (b : ℕ) + i) / 8 = b; omega
theorem Plane.off_at8 (b : Fin 64) (i : Fin 8) : Plane.off (Plane.at8 b i) = i := by
  apply Fin.ext; show (8 * (b : ℕ) + i) % 8 = i; omega
theorem Plane.at8_blk (r : Fin 512) : Plane.at8 (Plane.blk r) (Plane.off r) = r := by
  apply Fin.ext; show 8 * ((r : ℕ) / 8) + r % 8 = r; omega

/-- The kernel's result: the value kept of the quantised window, with the left neighbour added back. -/
def K.result (X : Pic) (n : Fin 32) (r j : Fin 512) : EReal :=
  K.keep (K.lsb X) (Ideal.div 1 (K.lsb X)) (K.win X (Plane.blk j) (Plane.blk r)) n (Plane.off r) (Plane.off j) + Plane.left X n r j

namespace Kwin

variable (X : Pic) (x : Vec Ideal S32x8x512 .f32) (hb : Fin 64) (hx : ∀ n i j, x (ix3 n i j) = X n (Plane.at8 hb i) j)
include hx

theorem left_pic (n : Fin 32) (i : Fin 8) (j : Fin 512) : Fit.left (F := Ideal) x (ix3 n i j) = Plane.left X n (Plane.at8 hb i) j := by
  rw [left_at]; unfold Plane.left; simp only [hx]

theorem quant_pic (n : Fin 32) (i : Fin 8) (j : Fin 512) :
    Fit.quant (F := Ideal) (Plane.mn X) (Plane.scale X) (Ideal.div 1 (Plane.scale X)) x (ix3 n i j) = K.quant X n (Plane.at8 hb i) j := by
  rw [quant_at, left_pic X x hb hx, hx]; rfl

/-- On the band of rows from `8 hb` on, with the stack's own scalars, the body stores the result's band. -/
theorem out_pic (n : Fin 32) (i : Fin 8) (j : Fin 512) :
    Fit.out (F := Ideal) (Plane.mn X) (Plane.scale X) (Ideal.div 1 (Plane.scale X)) (K.lsb X) (Ideal.div 1 (K.lsb X)) x (ix3 n i j)
      = K.result X n (Plane.at8 hb i) j := by
  have hw : win (Fit.quant (F := Ideal) (Plane.mn X) (Plane.scale X) (Ideal.div 1 (Plane.scale X)) x) (Plane.blk j) = K.win X (Plane.blk j) hb := by
    funext n i l; exact quant_pic X x hb hx n i _
  have h := out_at (Plane.mn X) (Plane.scale X) (Ideal.div 1 (Plane.scale X)) (K.lsb X) (Ideal.div 1 (K.lsb X)) x n i (Plane.blk j) (Plane.off j)
  rw [hw, left_pic X x hb hx] at h
  unfold K.result
  rw [Plane.blk_at8, Plane.off_at8]
  have hj : col (Plane.blk j) (Plane.off j) = j := Plane.at8_blk j
  rw [hj] at h
  exact h

end Kwin

end Cert
-- ==== Proof.Kscan.lean ====
/-
  What the scanning body stores, over the extended reals: the largest and the smallest difference of a slab of 64 rows.
-/
module

public import proofs.«01_k».proof.Proof.Scale
public import proofs.«01_k».proof.Proof.IdealScan
public import Idealize.ShloMosaic.Lib.Pointwise

@[expose] public section

set_option maxRecDepth 16384

noncomputable section

namespace Cert.Kscan

open Idealize.ShloMosaic Cert.KernelIdeal Cert.KernelIdeal.Gen

/-- The difference from the left neighbour (zero before the first lane). -/
def sdiff (x : Vec Ideal S32x64x512 .f32) (n : Fin 32) (r : Fin 64) (j : Fin 512) : EReal :=
  x (ix3 n r j) - if h : (j : ℕ) < 1 then 0 else x (ix3 n r ⟨j - 1, by omega⟩)

theorem pay1_at (x : Vec Ideal S32x64x512 .f32) (n : Fin 32) (r : Fin 64) (j : Fin 512) : k0_pay1 (F := Ideal) x (ix3 n r j) = sdiff x n r j := by
  unfold sdiff
  pointwise [k0_pay1]

/-- Every index of a slab with a leading unit dimension is an image, a row and a lane. -/
theorem idx_eq (i : S1x32x64x512.Idx) : i = ix4 (n0 := 1) (n1 := 32) (n2 := 64) (n3 := 512) 0 (i 1) (i 2) (i 3) := by
  funext k
  fin_cases k
  · exact Subsingleton.elim (α := Fin 1) _ _
  all_goals rfl
theorem all_idx (P : S1x32x64x512.Idx → Prop) : (∀ i, P i) ↔ ∀ n r j, P (ix4 (n0 := 1) (n1 := 32) (n2 := 64) (n3 := 512) 0 n r j) :=
  ⟨fun h n r j => h _, fun h i => by rw [idx_eq i]; exact h _ _ _⟩

theorem drop_eq (i : S1x32x64x512.Idx) : reduces_S1x32x64x512_S1.drop i = ix1 (n0 := 1) 0 := by
  funext k
  fin_cases k
  exact Subsingleton.elim (α := Fin 1) _ _

theorem slab_max (y : FVec Ideal S1x32x64x512 .f32) :
    multiReduction (F := Ideal) .maximumf [1, 2, 3] S1 y 0xFF800000#32 reduces_S1x32x64x512_S1 (.inl rfl) rfl (ix1 0)
      = ⨆ n, ⨆ r, ⨆ j, y (ix4 (n0 := 1) (n1 := 32) (n2 := 64) (n3 := 512) 0 n r j) := by
  pointwise
  refine eq_of_forall_ge_iff fun z => ?_
  have hb : Ideal.ofBits .f32 0xFF800000#32 = ⊥ := by simp [Ideal.ofBits, Ideal.ieee]
  rw [Finset.fold_max_le, hb]
  simp only [iSup_le_iff, bot_le, true_and, Finset.mem_filter, Finset.mem_univ]
  refine Iff.trans ?_ (all_idx (fun i => y i ≤ z))
  exact ⟨fun h i => h i (drop_eq i), fun h i _ => h i⟩

theorem slab_min (y : FVec Ideal S1x32x64x512 .f32) :
    multiReduction (F := Ideal) .minimumf [1, 2, 3] S1 y 0x7F800000#32 reduces_S1x32x64x512_S1 (.inl rfl) rfl (ix1 0)
      = ⨅ n, ⨅ r, ⨅ j, y (ix4 (n0 := 1) (n1 := 32) (n2 := 64) (n3 := 512) 0 n r j) := by
  pointwise
  refine eq_of_forall_le_iff fun z => ?_
  have hb : Ideal.ofBits .f32 0x7F800000#32 = ⊤ := by simp [Ideal.ofBits, Ideal.ieee]
  rw [Finset.le_fold_min, hb]
  simp only [le_iInf_iff, le_top, true_and, Finset.mem_filter, Finset.mem_univ]
  refine Iff.trans ?_ (all_idx (fun i => z ≤ y i))
  exact ⟨fun h i => h i (drop_eq i), fun h i _ => h i⟩

theorem cast4_at (y : FVec Ideal S32x64x512 .f32) (n : Fin 32) (r : Fin 64) (j : Fin 512) :
    shapeCast S1x32x64x512 y shapeCasts_S32x64x512_S1x32x64x512 (ix4 (n0 := 1) (n1 := 32) (n2 := 64) (n3 := 512) 0 n r j) = y (ix3 n r j) := by
  pointwise

theorem word_at (y : FVec Ideal S1 .f32) : extractAt ![0, 0, 0, 0] (shapeCast S1x1x1x1 y shapeCasts_S1_S1x1x1x1) inpos_S1x1x1x1_p0_0_0_0 = y (ix1 0) := by
  pointwise

theorem pay2_eq (x : Vec Ideal S32x64x512 .f32) : k0_pay2 (F := Ideal) x = ⨆ n, ⨆ r, ⨆ j, sdiff x n r j := by
  unfold k0_pay2
  refine (word_at _).trans ((slab_max _).trans ?_)
  simp only [cast4_at, pay1_at]
theorem pay3_eq (x : Vec Ideal S32x64x512 .f32) : k0_pay3 (F := Ideal) x = ⨅ n, ⨅ r, ⨅ j, sdiff x n r j := by
  unfold k0_pay3
  refine (word_at _).trans ((slab_min _).trans ?_)
  simp only [cast4_at, pay1_at]

end Cert.Kscan
-- ==== Proof.Krun.lean ====
/-
  The scan's running extremes over the extended reals are the largest and the smallest difference of the stack.
-/
module

public import proofs.«01_k».proof.Proof.Kscan

@[expose] public section

set_option maxRecDepth 16384

noncomputable section

namespace Cert.Kscan

open Idealize.ShloMosaic Cert.KernelIdeal Cert.KernelIdeal.Gen

/-! ## A running extreme over any slabs -/

theorem pay4_eq (x : Vec Ideal S32x64x512 .f32) (v : EReal) : k0_pay4 (F := Ideal) x v = max v (⨆ n, ⨆ r, ⨆ j, sdiff x n r j) := by
  unfold k0_pay4; rw [pay2_eq]; rfl
theorem pay5_eq (x : Vec Ideal S32x64x512 .f32) (v : EReal) : k0_pay5 (F := Ideal) x v = min v (⨅ n, ⨅ r, ⨅ j, sdiff x n r j) := by
  unfold k0_pay5; rw [pay3_eq]; rfl

variable (N : ℕ) (x : (n : ℕ) → n < N → Vec Ideal S32x64x512 .f32) (f : (n : ℕ) → n < N → EReal)

theorem run_le (h0 : ∀ h, f 0 h = k0_pay2 (F := Ideal) (x 0 h)) (hs : ∀ n h, f (n + 1) h = k0_pay4 (F := Ideal) (x (n + 1) h) (f n (Nat.lt_of_succ_lt h)))
    (z : EReal) : ∀ (n : ℕ) (h : n < N), f n h ≤ z ↔ ∀ (t : ℕ) (ht : t ≤ n) i r j, sdiff (x t (ht.trans_lt h)) i r j ≤ z
  | 0, h => by
    rw [h0, pay2_eq]
    simp only [iSup_le_iff]
    refine ⟨fun H t ht => ?_, fun H => H 0 le_rfl⟩
    obtain rfl := Nat.le_zero.1 ht
    exact H
  | n + 1, h => by
    rw [hs, pay4_eq, max_le_iff, run_le h0 hs z n]
    simp only [iSup_le_iff]
    refine ⟨fun H t ht => ?_, fun H => ⟨fun t ht => H t (ht.trans (Nat.le_succ n)), H (n + 1) le_rfl⟩⟩
    rcases Nat.le_succ_iff.1 ht with h1 | rfl
    · exact H.1 t h1
    · exact H.2

theorem le_run (h0 : ∀ h, f 0 h = k0_pay3 (F := Ideal) (x 0 h)) (hs : ∀ n h, f (n + 1) h = k0_pay5 (F := Ideal) (x (n + 1) h) (f n (Nat.lt_of_succ_lt h)))
    (z : EReal) : ∀ (n : ℕ) (h : n < N), z ≤ f n h ↔ ∀ (t : ℕ) (ht : t ≤ n) i r j, z ≤ sdiff (x t (ht.trans_lt h)) i r j
  | 0, h => by
    rw [h0, pay3_eq]
    simp only [le_iInf_iff]
    refine ⟨fun H t ht => ?_, fun H => H 0 le_rfl⟩
    obtain rfl := Nat.le_zero.1 ht
    exact H
  | n + 1, h => by
    rw [hs, pay5_eq, le_min_iff, le_run h0 hs z n]
    simp only [le_iInf_iff]
    refine ⟨fun H t ht => ?_, fun H => ⟨fun t ht => H t (ht.trans (Nat.le_succ n)), H (n + 1) le_rfl⟩⟩
    rcases Nat.le_succ_iff.1 ht with h1 | rfl
    · exact H.1 t h1
    · exact H.2

/-! ## Eight slabs of 64 rows -/

/-- Slabs that are the stack's rows from `64 t` on have the stack's differences. -/
theorem sdiff_eq (X : Pic) (y : Vec Ideal S32x64x512 .f32) (t : ℕ) (ht : t < 8)
    (hy : ∀ n (r : Fin 64) j, y (ix3 n r j) = X n ⟨64 * t + r, by omega⟩ j) (n : Fin 32) (r : Fin 64) (j : Fin 512) :
    sdiff y n r j = Plane.diff X n ⟨64 * t + r, by omega⟩ j := by
  unfold sdiff Plane.diff Plane.left
  simp only [hy]

theorem row_lt {N t : ℕ} (hN : N ≤ 8) (h : t < N) (r : Fin 64) : 64 * t + (r : ℕ) < 512 := by omega

variable (X : Pic) (hN : N ≤ 8) (h7 : 7 < N) (hx : ∀ t (h : t < N) n (r : Fin 64) j, x t h (ix3 n r j) = X n ⟨64 * t + r, row_lt hN h r⟩ j)
include hN hx

/-- After the eighth slab the running maximum is the stack's, -/
theorem run_max (h0 : ∀ h, f 0 h = k0_pay2 (F := Ideal) (x 0 h)) (hs : ∀ n h, f (n + 1) h = k0_pay4 (F := Ideal) (x (n + 1) h) (f n (Nat.lt_of_succ_lt h))) :
    f 7 h7 = Plane.mx X := by
  refine eq_of_forall_ge_iff fun z => ?_
  rw [run_le N x f h0 hs z 7 h7]
  unfold Plane.mx
  simp only [iSup_le_iff]
  constructor
  · intro H n r j
    have := H (r / 64) (by omega) n ⟨r % 64, by omega⟩ j
    rw [sdiff_eq X _ (r / 64) (by omega) (hx _ _)] at this
    convert this using 2
    apply Fin.ext; show (r : ℕ) = 64 * (r / 64) + r % 64; omega
  · intro H t ht n r j
    rw [sdiff_eq X _ t (by omega) (hx _ _)]
    exact H _ _ _

/-- and so is the running minimum. -/
theorem run_min (h0 : ∀ h, f 0 h = k0_pay3 (F := Ideal) (x 0 h)) (hs : ∀ n h, f (n + 1) h = k0_pay5 (F := Ideal) (x (n + 1) h) (f n (Nat.lt_of_succ_lt h))) :
    f 7 h7 = Plane.mn X := by
  refine eq_of_forall_le_iff fun z => ?_
  rw [le_run N x f h0 hs z 7 h7]
  unfold Plane.mn
  simp only [le_iInf_iff]
  constructor
  · intro H n r j
    have := H (r / 64) (by omega) n ⟨r % 64, by omega⟩ j
    rw [sdiff_eq X _ (r / 64) (by omega) (hx _ _)] at this
    convert this using 2
    apply Fin.ext; show (r : ℕ) = 64 * (r / 64) + r % 64; omega
  · intro H t ht n r j
    rw [sdiff_eq X _ t (by omega) (hx _ _)]
    exact H _ _ _

end Cert.Kscan
-- ==== Proof.Kslab.lean ====
/-
  The slabs the scan reads, and the words it leaves.
-/
module

public import proofs.«01_k».proof.Proof.Krun
public import proofs.«01_k».proof.Proof.IdealRun

@[expose] public section

set_option maxRecDepth 16384

noncomputable section

namespace Cert.Kscan

open Idealize.ShloMosaic Idealize.ShloMosaic.TcCoe Cert.KernelIdeal Cert.KernelIdeal.Gen

variable (W : Dev nD → Valuation τ sig (Elt Ideal)) (c : Dev nD)

/-- The stack as the scan's first window's array holds it. -/
def pic (V : Valuation τ sig (Elt Ideal)) : Pic := fun n r j => V (Proc.devRef .tc main_call0_v0) (ix3 n r j)

theorem index0 : ∀ t : Fin cfg0.N, win0_0.index t 0 = 0 ∧ win0_0.index t 1 = t.val ∧ win0_0.index t 2 = 0 :=
  (by decide +kernel : ∀ t : Fin grid0.N, win0_0.index t 0 = 0 ∧ win0_0.index t 1 = t.val ∧ win0_0.index t 2 = 0)

/-- The slab at point `t` is the stack's rows from `64 t` on. -/
theorem slab_at (t : Fin cfg0.N) (n : Fin 32) (r : Fin 64) (j : Fin 512) (hr : 64 * t.val + r.val < 512) :
    Scan.slab (F := Ideal) W c t (ix3 n r j) = pic (W c) n ⟨64 * t.val + r, hr⟩ j := by
  unfold Scan.slab Scan.blk pic
  rw [View.read_apply]
  show W c (Proc.devRef .tc main_call0_v0) _ = W c (Proc.devRef .tc main_call0_v0) _
  congr 1
  obtain ⟨h0, h1, h2⟩ := index0 t
  funext a
  apply Fin.ext
  match a with
  | ⟨0, _⟩ => show win0_0.index t 0 * 32 + 1 * (n : ℕ) = n; rw [h0]; omega
  | ⟨1, _⟩ => show win0_0.index t 1 * 64 + 1 * (r : ℕ) = 64 * t.val + r; rw [h1]; omega
  | ⟨2, _⟩ => show win0_0.index t 2 * 512 + 1 * (j : ℕ) = j; rw [h2]; omega

theorem N8 : cfg0.N = 8 := N_0

/-- The word the scan leaves is the running extreme after the last slab, -/
theorem max_word : Scan.maxAt (F := Ideal) W c 7 (by rw [N8]; decide) = Plane.mx (pic (W c)) :=
  run_max cfg0.N (fun n h => Scan.slab (F := Ideal) W c ⟨n, h⟩) (fun n h => Scan.maxAt (F := Ideal) W c n h) (pic (W c)) N8.le (by rw [N8]; decide)
    (fun t h n r j => slab_at W c ⟨t, h⟩ n r j (by have := N8; show 64 * t + _ < _; omega)) (fun _ => rfl) (fun _ _ => rfl)
theorem min_word : Scan.minAt (F := Ideal) W c 7 (by rw [N8]; decide) = Plane.mn (pic (W c)) :=
  run_min cfg0.N (fun n h => Scan.slab (F := Ideal) W c ⟨n, h⟩) (fun n h => Scan.minAt (F := Ideal) W c n h) (pic (W c)) N8.le (by rw [N8]; decide)
    (fun t h n r j => slab_at W c ⟨t, h⟩ n r j (by have := N8; show 64 * t + _ < _; omega)) (fun _ => rfl) (fun _ _ => rfl)

/-- The last slab. -/
abbrev last : Fin cfg0.N := ⟨7, by rw [N8]; decide⟩

/-- The first word's array ends at the largest difference. -/
theorem max_arr : (Scan.dat (F := Ideal) W c).arrAt 1 cfg0.N = fun _ => Plane.mx (pic (W c)) := by
  refine (Scan.dat (F := Ideal) W c).arrAt_eq_of_cover 1 (fun _ => Plane.mx (pic (W c))) (fun t hf => ?_) fun i => ⟨last, (flush0_1 last).mpr rfl, ?_⟩
  · have h7 : t.val = 7 := by have := (flush0_1 t).mp hf; have := t.isLt; have := N8; omega
    obtain rfl : t = last := Fin.ext h7
    show (cfg0.win 1).cut (grid0.coords last) ((Scan.dat (F := Ideal) W c).after 1 last) = _
    rw [Scan.after_1]
    funext y
    exact max_word W c
  · show i ∈ ((View.whole main_call0_v1_0).slice (win0_1.rect last)).set
    rw [View.set_slice_whole, Rect.mem_set_unit]
    intro a
    have h0 : (i 0 : Nat) < 1 := (i 0).isLt
    have h1 : (i 1 : Nat) < 1 := (i 1).isLt
    match a with
    | ⟨0, _⟩ => show win0_1.index last 0 * win0_1.size 0 ≤ (i 0 : Nat) ∧ (i 0 : Nat) < win0_1.index last 0 * win0_1.size 0 + win0_1.xsize (grid0.coords last) 0
                rw [show win0_1.index last 0 * win0_1.size 0 = 0 from by decide +kernel, show win0_1.xsize (grid0.coords last) 0 = 1 from by decide +kernel]; omega
    | ⟨1, _⟩ => show win0_1.index last 1 * win0_1.size 1 ≤ (i 1 : Nat) ∧ (i 1 : Nat) < win0_1.index last 1 * win0_1.size 1 + win0_1.xsize (grid0.coords last) 1
                rw [show win0_1.index last 1 * win0_1.size 1 = 0 from by decide +kernel, show win0_1.xsize (grid0.coords last) 1 = 1 from by decide +kernel]; omega

/-- The second word's array ends at the smallest difference. -/
theorem min_arr : (Scan.dat (F := Ideal) W c).arrAt 2 cfg0.N = fun _ => Plane.mn (pic (W c)) := by
  refine (Scan.dat (F := Ideal) W c).arrAt_eq_of_cover 2 (fun _ => Plane.mn (pic (W c))) (fun t hf => ?_) fun i => ⟨last, (flush0_2 last).mpr rfl, ?_⟩
  · have h7 : t.val = 7 := by have := (flush0_2 t).mp hf; have := t.isLt; have := N8; omega
    obtain rfl : t = last := Fin.ext h7
    show (cfg0.win 2).cut (grid0.coords last) ((Scan.dat (F := Ideal) W c).after 2 last) = _
    rw [Scan.after_2]
    funext y
    exact min_word W c
  · show i ∈ ((View.whole main_call0_v1_1).slice (win0_2.rect last)).set
    rw [View.set_slice_whole, Rect.mem_set_unit]
    intro a
    have h0 : (i 0 : Nat) < 1 := (i 0).isLt
    have h1 : (i 1 : Nat) < 1 := (i 1).isLt
    match a with
    | ⟨0, _⟩ => show win0_2.index last 0 * win0_2.size 0 ≤ (i 0 : Nat) ∧ (i 0 : Nat) < win0_2.index last 0 * win0_2.size 0 + win0_2.xsize (grid0.coords last) 0
                rw [show win0_2.index last 0 * win0_2.size 0 = 0 from by decide +kernel, show win0_2.xsize (grid0.coords last) 0 = 1 from by decide +kernel]; omega
    | ⟨1, _⟩ => show win0_2.index last 1 * win0_2.size 1 ≤ (i 1 : Nat) ∧ (i 1 : Nat) < win0_2.index last 1 * win0_2.size 1 + win0_2.xsize (grid0.coords last) 1
                rw [show win0_2.index last 1 * win0_2.size 1 = 0 from by decide +kernel, show win0_2.xsize (grid0.coords last) 1 = 1 from by decide +kernel]; omega

/-- When the scan is left its two words hold the largest and the smallest difference. -/
theorem left_max : Pipeline.afterRegion (Scan.dat (F := Ideal) W c) (W c) (Proc.devRef .tc main_call0_v1_0) = fun _ => Plane.mx (pic (W c)) :=
  (Pipeline.afterRegion_arr (Scan.dat (F := Ideal) W c) (W c) launch0.win.arr_inj 1).trans (max_arr W c)
theorem left_min : Pipeline.afterRegion (Scan.dat (F := Ideal) W c) (W c) (Proc.devRef .tc main_call0_v1_1) = fun _ => Plane.mn (pic (W c)) :=
  (Pipeline.afterRegion_arr (Scan.dat (F := Ideal) W c) (W c) launch0.win.arr_inj 2).trans (min_arr W c)

end Cert.Kscan
-- ==== Proof.Kband.lean ====
/-
  The bands the fit reads and the stack it leaves.
-/
module

public import proofs.«01_k».proof.Proof.Kpic
public import proofs.«01_k».proof.Proof.Kslab

@[expose] public section

set_option maxRecDepth 16384

noncomputable section

namespace Cert.Kband

open Idealize.ShloMosaic Idealize.ShloMosaic.TcCoe Cert.KernelIdeal Cert.KernelIdeal.Gen
open Cert.Kscan (pic)

variable (W : Dev nD → Valuation τ sig (Elt Ideal)) (c : Dev nD)

theorem index1_0 : ∀ t : Fin cfg1.N, win1_0.index t 0 = 0 ∧ win1_0.index t 1 = 0 :=
  (by decide +kernel : ∀ t : Fin grid1.N, win1_0.index t 0 = 0 ∧ win1_0.index t 1 = 0)
theorem index1_1 : ∀ t : Fin cfg1.N, win1_1.index t 0 = 0 ∧ win1_1.index t 1 = t.val ∧ win1_1.index t 2 = 0 :=
  (by decide +kernel : ∀ t : Fin grid1.N, win1_1.index t 0 = 0 ∧ win1_1.index t 1 = t.val ∧ win1_1.index t 2 = 0)
theorem index1_2 : ∀ t : Fin cfg1.N, win1_2.index t 0 = 0 ∧ win1_2.index t 1 = t.val ∧ win1_2.index t 2 = 0 :=
  (by decide +kernel : ∀ t : Fin grid1.N, win1_2.index t 0 = 0 ∧ win1_2.index t 1 = t.val ∧ win1_2.index t 2 = 0)

/-- At every point the body sees the same eight scalars, -/
theorem scal_at (t : Fin cfg1.N) (j : Fin 8) : Fit.at8 (F := Ideal) (Fit.scal (F := Ideal) W c t) j = W c (Proc.devRef .tc main_call0_v24) (ix2 0 j) := by
  unfold Fit.at8 Fit.scal Fit.blk
  rw [View.read_apply]
  show W c (Proc.devRef .tc main_call0_v24) _ = W c (Proc.devRef .tc main_call0_v24) _
  congr 1
  obtain ⟨h0, h1⟩ := index1_0 t
  funext a
  apply Fin.ext
  match a with
  | ⟨0, _⟩ => show win1_0.index t 0 * 1 + 1 * 0 = 0; rw [h0]
  | ⟨1, _⟩ => show win1_0.index t 1 * 8 + 1 * (j : ℕ) = j; rw [h1]; omega

/-- and at point `t` the stack's rows from `8 t` on. -/
theorem band_at (t : Fin cfg1.N) (n : Fin 32) (r : Fin 8) (j : Fin 512) (ht : t.val < 64) :
    Fit.band (F := Ideal) W c t (ix3 n r j) = pic (W c) n (Plane.at8 ⟨t, ht⟩ r) j := by
  unfold Fit.band Fit.blk pic
  rw [View.read_apply]
  show W c (Proc.devRef .tc main_call0_v0) _ = W c (Proc.devRef .tc main_call0_v0) _
  congr 1
  obtain ⟨h0, h1, h2⟩ := index1_1 t
  funext a
  apply Fin.ext
  match a with
  | ⟨0, _⟩ => show win1_1.index t 0 * 32 + 1 * (n : ℕ) = n; rw [h0]; omega
  | ⟨1, _⟩ => show win1_1.index t 1 * 8 + 1 * (r : ℕ) = 8 * t.val + r; rw [h1]; omega
  | ⟨2, _⟩ => show win1_1.index t 2 * 512 + 1 * (j : ℕ) = j; rw [h2]; omega

theorem N64 : cfg1.N = 64 := N_1

/-- The five scalars the body uses are those of the stack it reads. -/
def Scalars : Prop :=
  W c (Proc.devRef .tc main_call0_v24) (ix2 0 0) = Plane.mn (pic (W c)) ∧ W c (Proc.devRef .tc main_call0_v24) (ix2 0 1) = Plane.scale (pic (W c))
    ∧ W c (Proc.devRef .tc main_call0_v24) (ix2 0 2) = Ideal.div 1 (Plane.scale (pic (W c))) ∧ W c (Proc.devRef .tc main_call0_v24) (ix2 0 3) = K.lsb (pic (W c))
    ∧ W c (Proc.devRef .tc main_call0_v24) (ix2 0 4) = Ideal.div 1 (K.lsb (pic (W c)))

/-- Then at point `t` the body leaves the result's rows from `8 t` on, -/
theorem outAt_at (hs : Scalars W c) (t : Fin cfg1.N) (ht : t.val < 64) (n : Fin 32) (r : Fin 8) (j : Fin 512) :
    Fit.outAt (F := Ideal) W c t (ix3 n r j) = K.result (pic (W c)) n (Plane.at8 ⟨t, ht⟩ r) j := by
  obtain ⟨h0, h1, h2, h3, h4⟩ := hs
  unfold Fit.outAt
  rw [scal_at, scal_at, scal_at, scal_at, scal_at, h0, h1, h2, h3, h4]
  exact Kwin.out_pic (pic (W c)) (Fit.band (F := Ideal) W c t) ⟨t, ht⟩ (fun n i j => band_at W c t n i j ht) n r j

theorem idx3_eq (y : S32x8x512.Idx) : y = ix3 (n0 := 32) (n1 := 8) (n2 := 512) (y 0) (y 1) (y 2) := by
  funext k
  fin_cases k <;> rfl

theorem outAt_idx (hs : Scalars W c) (t : Fin cfg1.N) (ht : t.val < 64) (y : S32x8x512.Idx) (i : S32x512x512.Idx)
    (h0 : (i 0 : ℕ) = (y 0 : ℕ)) (h1 : (i 1 : ℕ) = 8 * t.val + (y 1 : ℕ)) (h2 : (i 2 : ℕ) = (y 2 : ℕ)) :
    Fit.outAt (F := Ideal) W c t y = K.result (pic (W c)) (i 0) (i 1) (i 2) := by
  refine (congrArg (Fit.outAt (F := Ideal) W c t) (idx3_eq y)).trans ((outAt_at W c hs t ht (y 0) (y 1) (y 2)).trans ?_)
  have e0 : (i 0 : Fin 32) = y 0 := Fin.ext h0
  have e1 : (i 1 : Fin 512) = Plane.at8 ⟨t, ht⟩ (y 1) := Fin.ext h1
  have e2 : (i 2 : Fin 512) = y 2 := Fin.ext h2
  exact (congrArg₂ (fun a b => K.result (pic (W c)) a b (y 2)) e0 e1).symm.trans (congrArg (K.result (pic (W c)) (i 0) (i 1)) e2).symm

/-- and the fit's array ends at the result. -/
theorem fit_arr (hs : Scalars W c) :
    (Fit.dat (F := Ideal) W c).arrAt 2 cfg1.N = fun i => K.result (pic (W c)) (i 0) (i 1) (i 2) := by
  refine (Fit.dat (F := Ideal) W c).arrAt_eq_of_cover 2 (fun i => K.result (pic (W c)) (i 0) (i 1) (i 2)) (fun t hf => ?_) fun i => ?_
  · have ht : t.val < 64 := lt_of_lt_of_eq t.isLt N64
    obtain ⟨h0, h1, h2⟩ := index1_2 t
    show (cfg1.win 2).cut (grid1.coords t) ((Fit.dat (F := Ideal) W c).after 2 t) = _
    rw [Fit.after_2]
    funext y
    rw [View.read_apply]
    refine outAt_idx W c hs t ht y (((cfg1.win 2).blk t).view.emb y) ?_ ?_ ?_
    · show win1_2.index t 0 * 32 + 1 * (y 0 : ℕ) = (y 0 : ℕ); rw [h0]; omega
    · show win1_2.index t 1 * 8 + 1 * (y 1 : ℕ) = 8 * t.val + (y 1 : ℕ); rw [h1]; omega
    · show win1_2.index t 2 * 512 + 1 * (y 2 : ℕ) = (y 2 : ℕ); rw [h2]; omega
  · have i0 : (i 0 : Nat) < 32 := (i 0).isLt
    have i1 : (i 1 : Nat) < 512 := (i 1).isLt
    have i2 : (i 2 : Nat) < 512 := (i 2).isLt
    obtain ⟨t, ht⟩ : ∃ t : Fin cfg1.N, t.val = (i 1 : Nat) / 8 := ⟨⟨(i 1 : Nat) / 8, lt_of_lt_of_eq (by omega) N64.symm⟩, rfl⟩
    obtain ⟨h0, h1, h2⟩ := index1_2 t
    refine ⟨t, flush1_2 t, ?_⟩
    show i ∈ ((View.whole main_call0_v25).slice (win1_2.rect t)).set
    rw [View.set_slice_whole, Rect.mem_set_unit]
    intro a
    match a with
    | ⟨0, _⟩ => show win1_2.index t 0 * 32 ≤ (i 0 : Nat) ∧ (i 0 : Nat) < win1_2.index t 0 * 32 + 32
                rw [h0]; omega
    | ⟨1, _⟩ => show win1_2.index t 1 * 8 ≤ (i 1 : Nat) ∧ (i 1 : Nat) < win1_2.index t 1 * 8 + 8
                rw [h1]; omega
    | ⟨2, _⟩ => show win1_2.index t 2 * 512 ≤ (i 2 : Nat) ∧ (i 2 : Nat) < win1_2.index t 2 * 512 + 512
                rw [h2]; omega

/-- When the fit is left its array holds the result. -/
theorem left_fit (hs : Scalars W c) : Pipeline.afterRegion (Fit.dat (F := Ideal) W c) (W c) (Proc.devRef .tc main_call0_v25)
    = fun i => K.result (pic (W c)) (i 0) (i 1) (i 2) :=
  (Pipeline.afterRegion_arr (Fit.dat (F := Ideal) W c) (W c) launch1.win.arr_inj 2).trans (fit_arr W c hs)

end Cert.Kband
-- ==== Proof.Khost.lean ====
/-
  The eight scalars between the two regions, from the two extremes.
-/
module

public import proofs.«01_k».proof.Proof.Kslab
public import Idealize.ShloMosaic.Lib.StableHlo.RunRead

@[expose] public section

set_option maxRecDepth 16384

noncomputable section

namespace Cert.Khost

open Idealize.ShloMosaic Idealize.ShloMosaic.TcCoe Cert.KernelIdeal Cert.KernelIdeal.Gen
open Idealize.ShloMosaic.StableHlo

/-! ## The operations on any contents -/

/-- Eight one-word vectors as a row. -/
def row8 (a b c d e f g h : FVec Ideal S1 .f32) : FVec Ideal S1x8 .f32 :=
  shapeCast S1x8 (concatenate S8 0 [⟨S1, a⟩, ⟨S1, b⟩, ⟨S1, c⟩, ⟨S1, d⟩, ⟨S1, e⟩, ⟨S1, f⟩, ⟨S1, g⟩, ⟨S1, h⟩] concatenates_S1_S1_S1_S1_S1_S1_S1_S1_S8_d0) shapeCasts_S8_S1x8

theorem row8_0 (a b c d e f g h : FVec Ideal S1 .f32) : row8 a b c d e f g h (ix2 (n0 := 1) (n1 := 8) 0 0) = a (ix1 0) := by pointwise [row8]
theorem row8_1 (a b c d e f g h : FVec Ideal S1 .f32) : row8 a b c d e f g h (ix2 (n0 := 1) (n1 := 8) 0 1) = b (ix1 0) := by pointwise [row8]
theorem row8_2 (a b c d e f g h : FVec Ideal S1 .f32) : row8 a b c d e f g h (ix2 (n0 := 1) (n1 := 8) 0 2) = c (ix1 0) := by pointwise [row8]
theorem row8_3 (a b c d e f g h : FVec Ideal S1 .f32) : row8 a b c d e f g h (ix2 (n0 := 1) (n1 := 8) 0 3) = d (ix1 0) := by pointwise [row8]
theorem row8_4 (a b c d e f g h : FVec Ideal S1 .f32) : row8 a b c d e f g h (ix2 (n0 := 1) (n1 := 8) 0 4) = e (ix1 0) := by pointwise [row8]

/-- A word as a scalar, a scalar as a one-word vector, one over a scalar, the scale and the step. -/
def word (a : FVec Ideal S1x1 .f32) : FVec Ideal S_ .f32 := shapeCast S_ a shapeCasts_S1x1_S_
def one (s : FVec Ideal S_ .f32) : FVec Ideal S1 .f32 := broadcastInDim S1 ![] bcast_S_S1 s
def inv (s : FVec Ideal S_ .f32) : FVec Ideal S_ .f32 := Host.divf (F := Ideal) (constant S_ .f32 0x3F800000#32) s
def scale (a b : FVec Ideal S_ .f32) : FVec Ideal S_ .f32 := Host.divf (F := Ideal) (constant S_ .f32 0x477FFF00#32) (subf (F := Ideal) a b)
def lsb (a : FVec Ideal S_ .f32) : FVec Ideal S_ .f32 :=
  Host.powf (F := Ideal) (constant S_ .f32 0x40000000#32) (addf (F := Ideal) (Host.roundeven (F := Ideal) (mulf (F := Ideal) (Host.log (F := Ideal) (Host.divf (F := Ideal) a (constant S_ .f32 0x47000000#32)))
    (broadcastInDim S_ ![] bcast_S_S_ (constant S_ .f32 0x3FB8AA3B#32)))) (constant S_ .f32 0x3F800000#32))

theorem word_at (a : FVec Ideal S1x1 .f32) : word a ix0 = a (ix2 (n0 := 1) (n1 := 1) 0 0) := by pointwise [word]
theorem one_at (s : FVec Ideal S_ .f32) : one s (ix1 (n0 := 1) 0) = s ix0 := by pointwise [one]
theorem one_word : Ideal.ofBits .f32 0x3F800000#32 = 1 := by
  simp [Ideal.ofBits, Ideal.ieee]
  rw [← EReal.coe_mul]; norm_num
theorem inv_at (s : FVec Ideal S_ .f32) : inv s ix0 = Ideal.div 1 (s ix0) := by
  rw [← one_word]; pointwise [inv]
theorem scale_at (a b : FVec Ideal S_ .f32) : scale a b ix0 = Ideal.div (Ideal.ofBits .f32 0x477FFF00#32) (a ix0 - b ix0) := by pointwise [scale]
theorem lsb_at (a : FVec Ideal S_ .f32) : lsb a ix0
    = Ideal.pow Plane.two (Plane.rne (Ideal.log (Ideal.div (a ix0) (Ideal.ofBits .f32 0x47000000#32)) * Ideal.ofBits .f32 0x3FB8AA3B#32) + 1) := by
  rw [← one_word]; unfold Plane.rne Plane.two; pointwise [lsb]

/-! ## What the line of operations leaves -/

variable (V : Valuation τ sig (Elt Ideal))

theorem v24_eq (a b c d e f g h : FVec Ideal S1 .f32)
    (ha : a = upto hostOps1 V 31 (Proc.devRef .tc main_call0_v15)) (hb : b = upto hostOps1 V 31 (Proc.devRef .tc main_call0_v16))
    (hc : c = upto hostOps1 V 31 (Proc.devRef .tc main_call0_v17)) (hd : d = upto hostOps1 V 31 (Proc.devRef .tc main_call0_v18))
    (he : e = upto hostOps1 V 31 (Proc.devRef .tc main_call0_v19)) (hf : f = upto hostOps1 V 31 (Proc.devRef .tc main_call0_v20))
    (hg : g = upto hostOps1 V 31 (Proc.devRef .tc main_call0_v21)) (hh : h = upto hostOps1 V 31 (Proc.devRef .tc main_call0_v22)) :
    StableHlo.after hostOps1 V (Proc.devRef .tc main_call0_v24) = row8 a b c d e f g h := by
  after_reads_simp
  generalize upto hostOps1 V 31 = U at *
  subst ha hb hc hd he hf hg hh
  rfl

theorem v15_eq : upto hostOps1 V 31 (Proc.devRef .tc main_call0_v15) = one (word (V (Proc.devRef .tc main_call0_v1_1))) := by
  after_reads_simp; rfl
theorem v16_eq : upto hostOps1 V 31 (Proc.devRef .tc main_call0_v16) = one (scale (word (V (Proc.devRef .tc main_call0_v1_0))) (word (V (Proc.devRef .tc main_call0_v1_1)))) := by
  after_reads_simp; rfl
theorem v17_eq : upto hostOps1 V 31 (Proc.devRef .tc main_call0_v17) = one (inv (scale (word (V (Proc.devRef .tc main_call0_v1_0))) (word (V (Proc.devRef .tc main_call0_v1_1))))) := by
  after_reads_simp; rfl
theorem v18_eq : upto hostOps1 V 31 (Proc.devRef .tc main_call0_v18) = one (lsb (word (V (Proc.devRef .tc main_call0_v1_0)))) := by
  after_reads_simp; rfl
theorem v19_eq : upto hostOps1 V 31 (Proc.devRef .tc main_call0_v19) = one (inv (lsb (word (V (Proc.devRef .tc main_call0_v1_0))))) := by
  after_reads_simp; rfl

end Cert.Khost
-- ==== Proof.Kvalue.lean ====
/-
  The kernel's result over the extended reals, index by index, as a function of the launched argument.
-/
module

public import proofs.«01_k».proof.Proof.Kband
public import proofs.«01_k».proof.Proof.Khost

@[expose] public section

set_option maxRecDepth 16384

noncomputable section

namespace Cert.Kvalue

open Idealize.ShloMosaic Idealize.ShloMosaic.TcCoe Cert.KernelIdeal Cert.KernelIdeal.Gen Cert.KernelIdeal.Run
open Idealize.ShloMosaic.StableHlo

/-! ## The first and the last operation on any contents -/

theorem flatten_at (y : FVec Ideal S1x32x512x512 .f32) (n : Fin 32) (r j : Fin 512) :
    shapeCast S32x512x512 y shapeCasts_S1x32x512x512_S32x512x512 (ix3 n r j) = y (ix4 (n0 := 1) (n1 := 32) (n2 := 512) (n3 := 512) 0 n r j) := by
  pointwise

theorem spread_at (y : FVec Ideal S32x512x512 .f32) (n : Fin 32) (r j : Fin 512) :
    broadcastInDim S1x32x512x512 ![1, 2, 3] bcast_S32x512x512_S1x32x512x512_1_2_3 y (ix4 (n0 := 1) (n1 := 32) (n2 := 512) (n3 := 512) 0 n r j) = y (ix3 n r j) := by
  pointwise

variable (V : Valuation τ sig (Elt Ideal))

theorem v0_eq : StableHlo.after hostOps0 V (Proc.devRef .tc main_call0_v0) = shapeCast S32x512x512 (V (Proc.devRef .tc main_arg0)) shapeCasts_S1x32x512x512_S32x512x512 := by
  after_reads_simp; rfl

theorem res_eq : StableHlo.after hostOps2 V (Proc.devRef .tc main_v0)
    = broadcastInDim S1x32x512x512 ![1, 2, 3] bcast_S32x512x512_S1x32x512x512_1_2_3 (V (Proc.devRef .tc main_call0_v25)) := by
  after_reads_simp; rfl

/-- The stack as the argument holds it. -/
def pic0 : Pic := fun n r j => V (Proc.devRef .tc main_arg0) (ix4 0 n r j)

theorem pic_first : Kscan.pic (StableHlo.after hostOps0 V) = pic0 V := by
  funext n r j
  unfold Kscan.pic pic0
  rw [v0_eq]
  exact flatten_at (V (Proc.devRef .tc main_arg0)) n r j

/-- With the two extremes in the scan's words, the line of operations leaves the stack's scalars. -/
theorem scalars_of (X : Pic) (h0 : V (Proc.devRef .tc main_call0_v1_0) = fun _ => Plane.mx X) (h1 : V (Proc.devRef .tc main_call0_v1_1) = fun _ => Plane.mn X) :
    let s : FVec Ideal S1x8 .f32 := StableHlo.after hostOps1 V (Proc.devRef .tc main_call0_v24)
    s (ix2 (n0 := 1) (n1 := 8) 0 0) = Plane.mn X ∧ s (ix2 (n0 := 1) (n1 := 8) 0 1) = Plane.scale X ∧ s (ix2 (n0 := 1) (n1 := 8) 0 2) = Ideal.div 1 (Plane.scale X)
      ∧ s (ix2 (n0 := 1) (n1 := 8) 0 3) = K.lsb X ∧ s (ix2 (n0 := 1) (n1 := 8) 0 4) = Ideal.div 1 (K.lsb X) := by
  intro s
  have hs : s = _ := Khost.v24_eq V _ _ _ _ _ _ _ _ rfl rfl rfl rfl rfl rfl rfl rfl
  rw [hs, Khost.row8_0, Khost.row8_1, Khost.row8_2, Khost.row8_3, Khost.row8_4, Khost.v15_eq, Khost.v16_eq, Khost.v17_eq, Khost.v18_eq, Khost.v19_eq, h0, h1]
  simp only [Khost.one_at, Khost.inv_at, Khost.scale_at, Khost.lsb_at, Khost.word_at]
  exact ⟨trivial, rfl, rfl, rfl, rfl⟩

/-! ## The run -/

variable (m : (ℓ : Loc nD τ sig) → Buf (Elt Ideal) ℓ) (c : Dev nD)

/-- The stack the fit reads is the launched one. -/
theorem pic_fit : Kscan.pic (W3 (F := Ideal) m c) = pic0 (W0 (F := Ideal) m c) := by
  rw [← pic_first]
  funext n r j
  unfold Kscan.pic
  exact congrFun ((StableHlo.after_of_writes_sub hostOps1 (W2 (F := Ideal) m c) hostOps1_writes (by decide)).trans (W2_of m c main_call0_v0 (by decide))) (ix3 n r j)

/-- The scalars the fit reads are the launched stack's. -/
theorem scalars_fit : Kband.Scalars (W3 (F := Ideal) m) c := by
  unfold Kband.Scalars
  rw [pic_fit, ← pic_first]
  exact scalars_of (W2 (F := Ideal) m c) _ (Kscan.left_max (W1 (F := Ideal) m) c) (Kscan.left_min (W1 (F := Ideal) m) c)

/-- The result at image `n`, row `r` and lane `j`. -/
theorem result_at (n : Fin 32) (r j : Fin 512) :
    (W5 (F := Ideal) m c (Proc.devRef .tc main_v0) : FVec Ideal S1x32x512x512 .f32) (ix4 (n0 := 1) (n1 := 32) (n2 := 512) (n3 := 512) 0 n r j)
      = K.result (pic0 (W0 (F := Ideal) m c)) n r j := by
  refine (congrFun (res_eq (W4 (F := Ideal) m c)) (ix4 (n0 := 1) (n1 := 32) (n2 := 512) (n3 := 512) 0 n r j)).trans ?_
  refine (spread_at (W4 (F := Ideal) m c (Proc.devRef .tc main_call0_v25)) n r j).trans ?_
  refine (congrFun (Kband.left_fit (W3 (F := Ideal) m) c (scalars_fit m c)) (ix3 n r j)).trans ?_
  rw [pic_fit]; rfl

end Cert.Kvalue
-- ==== Proof.Ref1.lean ====
/-
  The reference's values at an index: the differences, the scalars, the quantised stack and its windows.
-/
module

public import proofs.«01_k».proof.Proof.Scale
public import Idealize.ShloMosaic.Lib.Pointwise
public import Idealize.ShloMosaic.Lib.Tactic.CleanTypes
public import proofs.«01_k».proof.Proof.Gen.ReferenceIdeal.Run

@[expose] public section

set_option maxRecDepth 16384

noncomputable section

namespace Cert.Ref

open Idealize.ShloMosaic Cert.ReferenceIdeal Cert.ReferenceIdeal.Gen Cert.ReferenceIdeal.Value

/-! ## The operations on any contents -/

/-- Every index of the stack is an image, a row and a lane. -/
theorem idx_eq (i : S1x32x512x512.Idx) : i = ix4 (n0 := 1) (n1 := 32) (n2 := 512) (n3 := 512) 0 (i 1) (i 2) (i 3) := by
  funext k
  fin_cases k
  · exact Subsingleton.elim (α := Fin 1) _ _
  all_goals rfl
theorem all_idx (P : S1x32x512x512.Idx → Prop) : (∀ i, P i) ↔ ∀ n r j, P (ix4 (n0 := 1) (n1 := 32) (n2 := 512) (n3 := 512) 0 n r j) :=
  ⟨fun h n r j => h _, fun h i => by rw [idx_eq i]; exact h _ _ _⟩

theorem max_all (y : FVec Ideal S1x32x512x512 .f32) :
    Host.reduce (α := Ideal .f32) FloatOps.maximumf y (constant S_ .f32 0xFF800000#32) reducesTo_S1x32x512x512_S_d0_1_2_3 h_S_ ix0
      = ⨆ n, ⨆ r, ⨆ j, y (ix4 (n0 := 1) (n1 := 32) (n2 := 512) (n3 := 512) 0 n r j) := by
  pointwise
  refine eq_of_forall_ge_iff fun z => ?_
  have hb : Ideal.ofBits .f32 0xFF800000#32 = ⊥ := by simp [Ideal.ofBits, Ideal.ieee]
  rw [Finset.fold_max_le, hb]
  simp only [iSup_le_iff, bot_le, true_and, Finset.mem_filter, Finset.mem_univ]
  refine Iff.trans ?_ (all_idx (fun i => y i ≤ z))
  exact ⟨fun h i => h i (by funext k; exact k.elim0), fun h i _ => h i⟩

theorem min_all (y : FVec Ideal S1x32x512x512 .f32) :
    Host.reduce (α := Ideal .f32) FloatOps.minimumf y (constant S_ .f32 0x7F800000#32) reducesTo_S1x32x512x512_S_d0_1_2_3 h_S_ ix0
      = ⨅ n, ⨅ r, ⨅ j, y (ix4 (n0 := 1) (n1 := 32) (n2 := 512) (n3 := 512) 0 n r j) := by
  pointwise
  refine eq_of_forall_le_iff fun z => ?_
  have hb : Ideal.ofBits .f32 0x7F800000#32 = ⊤ := by simp [Ideal.ofBits, Ideal.ieee]
  rw [Finset.le_fold_min, hb]
  simp only [le_iInf_iff, le_top, true_and, Finset.mem_filter, Finset.mem_univ]
  refine Iff.trans ?_ (all_idx (fun i => z ≤ y i))
  exact ⟨fun h i => h i (by funext k; exact k.elim0), fun h i _ => h i⟩

theorem scale_of (a b : FVec Ideal S_ .f32) : Host.divf (F := Ideal) (constant S_ .f32 0x477FFF00#32) (subf a b) ix0
    = Ideal.div (Ideal.ofBits .f32 0x477FFF00#32) (a ix0 - b ix0) := by pointwise

theorem scaled_at (x : FVec Ideal S1x32x512x512 .f32) (b s : FVec Ideal S_ .f32) (n : Fin 32) (r j : Fin 512) :
    mulf (F := Ideal) (subf x (broadcastInDim S1x32x512x512 ![] bcast_S_S1x32x512x512 b)) (broadcastInDim S1x32x512x512 ![] bcast_S_S1x32x512x512 s) (ix4 (n0 := 1) (n1 := 32) (n2 := 512) (n3 := 512) 0 n r j)
      = (x (ix4 (n0 := 1) (n1 := 32) (n2 := 512) (n3 := 512) 0 n r j) - b ix0) * s ix0 := by pointwise

theorem rounded_at (x : FVec Ideal S1x32x512x512 .f32) (b s : FVec Ideal S_ .f32) (n : Fin 32) (r j : Fin 512) :
    addf (F := Ideal) (mulf (addf x (subf (Host.roundeven x) x)) (broadcastInDim S1x32x512x512 ![] bcast_S_S1x32x512x512 (Host.divf (constant S_ .f32 0x3F800000#32) s)))
        (broadcastInDim S1x32x512x512 ![] bcast_S_S1x32x512x512 b) (ix4 (n0 := 1) (n1 := 32) (n2 := 512) (n3 := 512) 0 n r j)
      = Plane.ste (x (ix4 (n0 := 1) (n1 := 32) (n2 := 512) (n3 := 512) 0 n r j)) * Ideal.div 1 (s ix0) + b ix0 := by
  unfold Plane.ste Plane.rne; pointwise

theorem lg_of (a : FVec Ideal S_ .f32) :
    mulf (F := Ideal) (Host.log (Host.divf a (constant S_ .f32 0x47000000#32))) (broadcastInDim S_ ![] bcast_S_S_ (constant S_ .f32 0x3FB8AA3B#32)) ix0
      = Ideal.log (Ideal.div (a ix0) (Ideal.ofBits .f32 0x47000000#32)) * Ideal.ofBits .f32 0x3FB8AA3B#32 := by pointwise

theorem lsb_of (a : FVec Ideal S_ .f32) :
    Host.powf (F := Ideal) (constant S_ .f32 0x40000000#32) (addf (addf a (subf (Host.roundeven a) a)) (constant S_ .f32 0x3F800000#32)) ix0
      = Ideal.pow Plane.two (Plane.ste (a ix0) + 1) := by
  unfold Plane.ste Plane.rne Plane.two; pointwise

/-! ## The reference's values -/

variable (V0 : Valuation τ sig (Elt Ideal))

/-- The argument as a stack of images. -/
def pic : Pic := fun n r j => V0 (Proc.devRef .tc main_arg0) (ix4 (n0 := 1) (n1 := 32) (n2 := 512) (n3 := 512) 0 n r j)

theorem v2_at (n : Fin 32) (r j : Fin 512) : res_main_v2 (F := Ideal) V0 (ix4 (n0 := 1) (n1 := 32) (n2 := 512) (n3 := 512) 0 n r j) = Plane.left (pic V0) n r j := by
  unfold res_main_v2 Plane.left pic
  clean_types
  pointwise

theorem v3_at (n : Fin 32) (r j : Fin 512) : res_main_v3 (F := Ideal) V0 (ix4 (n0 := 1) (n1 := 32) (n2 := 512) (n3 := 512) 0 n r j) = Plane.diff (pic V0) n r j := by
  unfold Plane.diff; rw [← v2_at]
  unfold res_main_v3 pic
  clean_types
  pointwise

theorem v4_at : res_main_v4 (F := Ideal) V0 ix0 = Plane.mx (pic V0) := by
  refine (max_all (res_main_v3 (F := Ideal) V0)).trans ?_
  unfold Plane.mx; simp only [v3_at]

theorem v5_at : res_main_v5 (F := Ideal) V0 ix0 = Plane.mn (pic V0) := by
  refine (min_all (res_main_v3 (F := Ideal) V0)).trans ?_
  unfold Plane.mn; simp only [v3_at]

theorem v7_at : res_main_v7 (F := Ideal) V0 ix0 = Plane.scale (pic V0) := by
  refine (scale_of (res_main_v4 (F := Ideal) V0) (res_main_v5 (F := Ideal) V0)).trans ?_
  rw [v4_at, v5_at]; rfl

theorem v11_at (n : Fin 32) (r j : Fin 512) : res_main_v11 (F := Ideal) V0 (ix4 (n0 := 1) (n1 := 32) (n2 := 512) (n3 := 512) 0 n r j)
    = (Plane.diff (pic V0) n r j - Plane.mn (pic V0)) * Plane.scale (pic V0) := by
  refine (scaled_at (res_main_v3 (F := Ideal) V0) (res_main_v5 (F := Ideal) V0) (res_main_v7 (F := Ideal) V0) n r j).trans ?_
  rw [v3_at, v5_at, v7_at]

theorem v175_at : res_main_v175 (F := Ideal) V0 ix0 = R.lsb (pic V0) := by
  have h : res_main_v170 (F := Ideal) V0 ix0 = Plane.lg (pic V0) := by
    refine (lg_of (res_main_v4 (F := Ideal) V0)).trans ?_
    rw [v4_at]; rfl
  refine (lsb_of (res_main_v170 (F := Ideal) V0)).trans ?_
  rw [h]; rfl

end Cert.Ref
-- ==== Proof.Ref2.lean ====
/-
  The reference's values at an index: the stack cut into windows.
-/
module

public import proofs.«01_k».proof.Proof.Ref1
public import Idealize.ShloMosaic.Lib.Pointwise

@[expose] public section

set_option maxRecDepth 16384

noncomputable section

namespace Cert.Ref

open Idealize.ShloMosaic Cert.ReferenceIdeal Cert.ReferenceIdeal.Gen Cert.ReferenceIdeal.Value

/-! ## The windows -/

theorem cut1 (y : FVec Ideal S1x32x512x512 .f32) (n : Fin 32) (wb : Fin 64) (r : Fin 512) (l : Fin 8) :
    transpose S1x32x64x512x8 [0, 1, 3, 2, 4] (shapeCast S1x32x512x64x8 y shapeCasts_S1x32x512x512_S1x32x512x64x8) transposes_S1x32x512x64x8_S1x32x64x512x8_0_1_3_2_4 (ix5 (n0 := 1) 0 n wb r l)
      = y (ix4 (n0 := 1) (n1 := 32) (n2 := 512) (n3 := 512) 0 n r (Plane.at8 wb l)) := by
  pointwise
  simp only [Plane.at8, mul_comm 8]

theorem cut2 (y : FVec Ideal S1x32x64x512x8 .f32) (n : Fin 32) (wb hb : Fin 64) (i l : Fin 8) :
    shapeCast S1x32x64x64x8x8 y shapeCasts_S1x32x64x512x8_S1x32x64x64x8x8 (ix6 (n0 := 1) 0 n wb hb i l)
      = y (ix5 (n0 := 1) (n3 := 512) 0 n wb (Plane.at8 hb i) l) := by
  pointwise
  simp only [Plane.at8, mul_comm 8]

theorem cut3 (y : FVec Ideal S1x32x64x64x8x8 .f32) (n : Fin 32) (wb hb p : Fin 64) :
    shapeCast S1x64x64x32x64 (transpose S1x64x64x32x8x8 [0, 2, 3, 1, 4, 5] y transposes_S1x32x64x64x8x8_S1x64x64x32x8x8_0_2_3_1_4_5) shapeCasts_S1x64x64x32x8x8_S1x64x64x32x64 (ix5 (n0 := 1) 0 wb hb n p)
      = y (ix6 (n0 := 1) 0 n wb hb (R.row p) (R.lane p)) := by
  pointwise
  simp only [R.row, R.lane]

theorem cut4 (y : FVec Ideal S1x64x64x32x64 .f32) (n : Fin 32) (wb hb p : Fin 64) :
    shapeCast S64x64x64x32 (transpose S1x64x64x64x32 [0, 1, 2, 4, 3] y transposes_S1x64x64x32x64_S1x64x64x64x32_0_1_2_4_3) shapeCasts_S1x64x64x64x32_S64x64x64x32 (ix4 wb hb p n)
      = y (ix5 (n0 := 1) 0 wb hb n p) := by
  pointwise

theorem turned_at (y : FVec Ideal S64x64x64x32 .f32) (wb hb p : Fin 64) (n : Fin 32) :
    (transpose S64x64x32x64 [0, 1, 3, 2] y transposes_S64x64x64x32_S64x64x32x64_0_1_3_2 : FVec Ideal S64x64x32x64 .f32) (ix4 wb hb n p) = y (ix4 wb hb p n) := by pointwise

theorem first_at (y : FVec Ideal S64x64x32x64 .f32) (wb hb p : Fin 64) :
    (broadcastInDim S64x64x1x64 ![0, 1, 3] bcast_S64x64x64_S64x64x1x64_0_1_3 (shapeCast _ (extractStridedSlice S64x64x1x64 ![0, 0, 0, 0] y slices_S64x64x32x64_S64x64x1x64_0_0_0_0) shapeCasts_S64x64x1x64_S64x64x64) : FVec Ideal S64x64x1x64 .f32) (ix4 (n2 := 1) wb hb 0 p) = y (ix4 wb hb 0 p) := by pointwise

theorem second_at (y : FVec Ideal S64x64x32x64 .f32) (wb hb p : Fin 64) :
    (broadcastInDim S64x64x1x64 ![0, 1, 3] bcast_S64x64x64_S64x64x1x64_0_1_3 (shapeCast _ (extractStridedSlice S64x64x1x64 ![0, 0, 1, 0] y slices_S64x64x32x64_S64x64x1x64_0_0_1_0) shapeCasts_S64x64x1x64_S64x64x64) : FVec Ideal S64x64x1x64 .f32) (ix4 (n2 := 1) wb hb 0 p) = y (ix4 wb hb 1 p) := by pointwise

theorem stack_at (y z : FVec Ideal S64x64x1x64 .f32) (wb hb p : Fin 64) (k : Fin 3) :
    (concatenate S64x64x3x64 2 [⟨S64x64x1x64, (y : FVec Ideal S64x64x1x64 .f32)⟩, ⟨S64x64x1x64, (z : FVec Ideal S64x64x1x64 .f32)⟩, ⟨S64x64x1x64, ((broadcastInDim S64x64x1x64 ![] bcast_S_S64x64x1x64 (constant S_ .f32 0x3F800000#32)) : FVec Ideal S64x64x1x64 .f32)⟩] concatenates_S64x64x1x64_S64x64x1x64_S64x64x1x64_S64x64x3x64_d2 : FVec Ideal S64x64x3x64 .f32) (ix4 wb hb k p)
      = if k = 0 then y (ix4 (n2 := 1) wb hb 0 p) else if k = 1 then z (ix4 (n2 := 1) wb hb 0 p) else 1 := by
  pointwise
  fin_cases k <;> rfl

theorem stackT_at (y : FVec Ideal S64x64x3x64 .f32) (wb hb p : Fin 64) (k : Fin 3) :
    (transpose S64x64x64x3 [0, 1, 3, 2] y transposes_S64x64x3x64_S64x64x64x3_0_1_3_2 : FVec Ideal S64x64x64x3 .f32) (ix4 wb hb p k) = y (ix4 wb hb k p) := by pointwise

theorem gram_at (y : FVec Ideal S64x64x3x64 .f32) (z : FVec Ideal S64x64x64x3 .f32) (wb hb : Fin 64) (k k' : Fin 3) :
    (Host.dotGeneral dot_S64x64x3x64_S64x64x64x3_S64x64x3x3_3_2_2_3_01_01 none y z : FVec Ideal S64x64x3x3 .f32) (ix4 wb hb k k') = ∑ p, y (ix4 wb hb k p) * z (ix4 wb hb p k') := by pointwise

theorem max_lane (y : FVec Ideal S64x64x1x64 .f32) (wb hb : Fin 64) :
    (Host.reduce (α := Ideal .f32) FloatOps.maximumf y (constant S_ .f32 0xFF800000#32) reducesTo_S64x64x1x64_S64x64x1_d3 h_S_) (ix3 (n2 := 1) wb hb 0)
      = Finset.univ.fold max (Ideal.ofBits .f32 0xFF800000#32) fun p : Fin 64 => y (ix4 (n2 := 1) wb hb 0 p) := by pointwise
theorem min_lane (y : FVec Ideal S64x64x1x64 .f32) (wb hb : Fin 64) :
    (Host.reduce (α := Ideal .f32) FloatOps.minimumf y (constant S_ .f32 0x7F800000#32) reducesTo_S64x64x1x64_S64x64x1_d3 h_S_) (ix3 (n2 := 1) wb hb 0)
      = Finset.univ.fold min (Ideal.ofBits .f32 0x7F800000#32) fun p : Fin 64 => y (ix4 (n2 := 1) wb hb 0 p) := by pointwise

theorem mask_at (a b c d : FVec Ideal S64x64x1 .f32) (wb hb : Fin 64) :
    (andi (cmpf .olt (subf (shapeCast _ a shapeCasts_S64x64x1_S64x64) (shapeCast _ b shapeCasts_S64x64x1_S64x64)) (broadcastInDim S64x64 ![] bcast_S_S64x64 (constant S_ .f32 0x358637BD#32))) (cmpf .olt (subf (shapeCast _ c shapeCasts_S64x64x1_S64x64) (shapeCast _ d shapeCasts_S64x64x1_S64x64)) (broadcastInDim S64x64 ![] bcast_S_S64x64 (constant S_ .f32 0x358637BD#32))) : IVec S64x64 1) (ix2 wb hb)
      = IntOp.andi (BitVec.ofBool (decide (a (ix3 (n2 := 1) wb hb 0) - b (ix3 (n2 := 1) wb hb 0) < Plane.flat))) (BitVec.ofBool (decide (c (ix3 (n2 := 1) wb hb 0) - d (ix3 (n2 := 1) wb hb 0) < Plane.flat))) := by
  unfold Plane.flat; pointwise

end Cert.Ref
-- ==== Proof.Ref3.lean ====
/-
  The reference's values at an index: the elimination and the fit, over any contents.
-/
module

public import proofs.«01_k».proof.Proof.Ref1
public import Idealize.ShloMosaic.Lib.Pointwise

@[expose] public section

set_option maxRecDepth 16384

noncomputable section

namespace Cert.Ref

open Idealize.ShloMosaic Cert.ReferenceIdeal Cert.ReferenceIdeal.Gen Cert.ReferenceIdeal.Value

theorem pivot0_at (a : FVec Ideal S64x64x3x6 .f32) (wb hb : Fin 64) (q : Fin 6) :
    (Host.divf (extractStridedSlice S64x64x1x6 ![0, 0, 0, 0] a slices_S64x64x3x6_S64x64x1x6_0_0_0_0) (broadcastInDim S64x64x1x6 ![0, 1, 2, 3] bcast_S64x64x1x1_S64x64x1x6_0_1_2_3 (extractStridedSlice S64x64x1x1 ![0, 0, 0, 0] a slices_S64x64x3x6_S64x64x1x1_0_0_0_0)) : FVec Ideal S64x64x1x6 .f32) (ix4 (n2 := 1) wb hb 0 q) = Ideal.div (a (ix4 wb hb 0 q)) (a (ix4 wb hb 0 0)) := by pointwise

theorem step0_at (a : FVec Ideal S64x64x3x6 .f32) (b : FVec Ideal S64x64x1x6 .f32) (wb hb : Fin 64) (r : Fin 3) (q : Fin 6) :
    (select (broadcastInDim S64x64x3x6 ![0, 1, 2, 3] bcast_S1x1x3x1_S64x64x3x6_0_1_2_3 (cmpi .eq (broadcastInDim S1x1x3x1 ![2] bcast_S3_S1x1x3x1_2 (iotaInDim S3 32 0)) (broadcastInDim S1x1x3x1 ![] bcast_S_S1x1x3x1 (constantI S_ 32 0#32)))) (broadcastInDim S64x64x3x6 ![0, 1, 2, 3] bcast_S64x64x1x6_S64x64x3x6_0_1_2_3 b) (subf a (mulf (broadcastInDim S64x64x3x6 ![0, 1, 2, 3] bcast_S64x64x3x1_S64x64x3x6_0_1_2_3 (extractStridedSlice S64x64x3x1 ![0, 0, 0, 0] a slices_S64x64x3x6_S64x64x3x1_0_0_0_0)) (broadcastInDim S64x64x3x6 ![0, 1, 2, 3] bcast_S64x64x1x6_S64x64x3x6_0_1_2_3 b))) : FVec Ideal S64x64x3x6 .f32) (ix4 wb hb r q)
      = if r = 0 then b (ix4 (n2 := 1) wb hb 0 q) else a (ix4 wb hb r q) - a (ix4 wb hb r 0) * b (ix4 (n2 := 1) wb hb 0 q) := by
  have h : ∀ r : Fin 3, IntOp.cmpi .eq (BitVec.ofNat 32 (r : ℕ)) 0#32 = if r = 0 then 1#1 else 0#1 := by decide
  pointwise
  rw [h]
  split <;> rfl

theorem pivot1_at (a : FVec Ideal S64x64x3x6 .f32) (wb hb : Fin 64) (q : Fin 6) :
    (Host.divf (extractStridedSlice S64x64x1x6 ![0, 0, 1, 0] a slices_S64x64x3x6_S64x64x1x6_0_0_1_0) (broadcastInDim S64x64x1x6 ![0, 1, 2, 3] bcast_S64x64x1x1_S64x64x1x6_0_1_2_3 (extractStridedSlice S64x64x1x1 ![0, 0, 1, 1] a slices_S64x64x3x6_S64x64x1x1_0_0_1_1)) : FVec Ideal S64x64x1x6 .f32) (ix4 (n2 := 1) wb hb 0 q) = Ideal.div (a (ix4 wb hb 1 q)) (a (ix4 wb hb 1 1)) := by pointwise

theorem step1_at (a : FVec Ideal S64x64x3x6 .f32) (b : FVec Ideal S64x64x1x6 .f32) (wb hb : Fin 64) (r : Fin 3) (q : Fin 6) :
    (select (broadcastInDim S64x64x3x6 ![0, 1, 2, 3] bcast_S1x1x3x1_S64x64x3x6_0_1_2_3 (cmpi .eq (broadcastInDim S1x1x3x1 ![2] bcast_S3_S1x1x3x1_2 (iotaInDim S3 32 0)) (broadcastInDim S1x1x3x1 ![] bcast_S_S1x1x3x1 (constantI S_ 32 1#32)))) (broadcastInDim S64x64x3x6 ![0, 1, 2, 3] bcast_S64x64x1x6_S64x64x3x6_0_1_2_3 b) (subf a (mulf (broadcastInDim S64x64x3x6 ![0, 1, 2, 3] bcast_S64x64x3x1_S64x64x3x6_0_1_2_3 (extractStridedSlice S64x64x3x1 ![0, 0, 0, 1] a slices_S64x64x3x6_S64x64x3x1_0_0_0_1)) (broadcastInDim S64x64x3x6 ![0, 1, 2, 3] bcast_S64x64x1x6_S64x64x3x6_0_1_2_3 b))) : FVec Ideal S64x64x3x6 .f32) (ix4 wb hb r q)
      = if r = 1 then b (ix4 (n2 := 1) wb hb 0 q) else a (ix4 wb hb r q) - a (ix4 wb hb r 1) * b (ix4 (n2 := 1) wb hb 0 q) := by
  have h : ∀ r : Fin 3, IntOp.cmpi .eq (BitVec.ofNat 32 (r : ℕ)) 1#32 = if r = 1 then 1#1 else 0#1 := by decide
  pointwise
  rw [h]
  split <;> rfl

theorem pivot2_at (a : FVec Ideal S64x64x3x6 .f32) (wb hb : Fin 64) (q : Fin 6) :
    (Host.divf (extractStridedSlice S64x64x1x6 ![0, 0, 2, 0] a slices_S64x64x3x6_S64x64x1x6_0_0_2_0) (broadcastInDim S64x64x1x6 ![0, 1, 2, 3] bcast_S64x64x1x1_S64x64x1x6_0_1_2_3 (extractStridedSlice S64x64x1x1 ![0, 0, 2, 2] a slices_S64x64x3x6_S64x64x1x1_0_0_2_2)) : FVec Ideal S64x64x1x6 .f32) (ix4 (n2 := 1) wb hb 0 q) = Ideal.div (a (ix4 wb hb 2 q)) (a (ix4 wb hb 2 2)) := by pointwise

theorem step2_at (a : FVec Ideal S64x64x3x6 .f32) (b : FVec Ideal S64x64x1x6 .f32) (wb hb : Fin 64) (r : Fin 3) (q : Fin 6) :
    ((select (broadcastInDim S64x64x3x6 ![0, 1, 2, 3] bcast_S1x1x3x1_S64x64x3x6_0_1_2_3 (cmpi .eq (broadcastInDim S1x1x3x1 ![2] bcast_S3_S1x1x3x1_2 (iotaInDim S3 32 0)) (broadcastInDim S1x1x3x1 ![] bcast_S_S1x1x3x1 (constantI S_ 32 2#32)))) (broadcastInDim S64x64x3x6 ![0, 1, 2, 3] bcast_S64x64x1x6_S64x64x3x6_0_1_2_3 b) (subf a (mulf (broadcastInDim S64x64x3x6 ![0, 1, 2, 3] bcast_S64x64x3x1_S64x64x3x6_0_1_2_3 (extractStridedSlice S64x64x3x1 ![0, 0, 0, 2] a slices_S64x64x3x6_S64x64x3x1_0_0_0_2)) (broadcastInDim S64x64x3x6 ![0, 1, 2, 3] bcast_S64x64x1x6_S64x64x3x6_0_1_2_3 b)))) : FVec Ideal S64x64x3x6 .f32) (ix4 wb hb r q)
      = if r = 2 then b (ix4 (n2 := 1) wb hb 0 q) else a (ix4 wb hb r q) - a (ix4 wb hb r 2) * b (ix4 (n2 := 1) wb hb 0 q) := by
  have h : ∀ r : Fin 3, IntOp.cmpi .eq (BitVec.ofNat 32 (r : ℕ)) 2#32 = if r = 2 then 1#1 else 0#1 := by decide
  pointwise
  rw [h]
  split <;> rfl

theorem fitted_at (a : FVec Ideal S64x64x3x6 .f32) (y : FVec Ideal S64x64x3x64 .f32) (z : FVec Ideal S64x64x64x3 .f32) (w : FVec Ideal S64x64x64x32 .f32) (s : FVec Ideal S_ .f32)
    (wb hb p : Fin 64) (n : Fin 32) :
    (Host.divf (transpose S64x64x32x64 [0, 1, 3, 2] (Host.dotGeneral dot_S64x64x64x3_S64x64x3x32_S64x64x64x32_3_2_2_3_01_01 none z (Host.dotGeneral dot_S64x64x3x64_S64x64x64x32_S64x64x3x32_3_2_2_3_01_01 none (Host.dotGeneral dot_S64x64x3x3_S64x64x3x64_S64x64x3x64_3_2_2_3_01_01 none (extractStridedSlice S64x64x3x3 ![0, 0, 0, 3] a slices_S64x64x3x6_S64x64x3x3_0_0_0_3) y) w)) transposes_S64x64x64x32_S64x64x32x64_0_1_3_2) (broadcastInDim S64x64x32x64 ![] bcast_S_S64x64x32x64 s) : FVec Ideal S64x64x32x64 .f32) (ix4 wb hb n p)
      = Ideal.div (∑ k : Fin 3, z (ix4 wb hb p k) * ∑ p' : Fin 64, (∑ j : Fin 3, a (ix4 wb hb k ⟨3 + j, by omega⟩) * y (ix4 wb hb j p')) * w (ix4 wb hb p' n)) (s ix0) := by
  pointwise

theorem fitq_at (a : FVec Ideal S64x64x32x64 .f32) (s : FVec Ideal S_ .f32) (wb hb p : Fin 64) (n : Fin 32) :
    (mulf (addf a (subf (Host.roundeven a) a)) (broadcastInDim S64x64x32x64 ![] bcast_S_S64x64x32x64 s) : FVec Ideal S64x64x32x64 .f32) (ix4 wb hb n p) = Plane.ste (a (ix4 wb hb n p)) * s ix0 := by
  unfold Plane.ste Plane.rne; pointwise

end Cert.Ref
-- ==== Proof.Ref4.lean ====
/-
  The reference's values at an index: the matrix to invert, over any contents.
-/
module

public import proofs.«01_k».proof.Proof.Ref1
public import Idealize.ShloMosaic.Lib.Pointwise

@[expose] public section

set_option maxRecDepth 16384

noncomputable section

namespace Cert.Ref

open Idealize.ShloMosaic Cert.ReferenceIdeal Cert.ReferenceIdeal.Gen Cert.ReferenceIdeal.Value

theorem eye_at (k j : Fin 3) : FloatOps.uitofp (F := Ideal) .f32 (IntOp.cmpi .eq (IntOp.addi (BitVec.ofNat 32 (k : ℕ)) 0#32) (BitVec.ofNat 32 (j : ℕ))) = R.eye k j := by
  have h : ∀ k j : Fin 3, IntOp.cmpi .eq (IntOp.addi (BitVec.ofNat 32 (k : ℕ)) 0#32) (BitVec.ofNat 32 (j : ℕ)) = if k = j then 1#1 else 0#1 := by decide
  rw [h]; unfold R.eye
  split
  · change (((1#1 : BitVec 1).toNat : ℝ) : EReal) = 1; simp
  · change (((0#1 : BitVec 1).toNat : ℝ) : EReal) = 0; simp

theorem beside_at (g : FVec Ideal S64x64x3x3 .f32) (wb hb : Fin 64) (k : Fin 3) (q : Fin 6) :
    (concatenate S64x64x3x6 3 [⟨S64x64x3x3, (select (broadcastInDim S64x64x3x3 ![0, 1, 2, 3] bcast_S64x64x1x1_S64x64x3x3_0_1_2_3 (broadcastInDim S64x64x1x1 ![0, 1] bcast_S64x64_S64x64x1x1_0_1 (cmpf .oeq (subf (subf (subf (addf (addf (mulf (mulf (shapeCast _ (extractStridedSlice S64x64x1x1 ![0, 0, 0, 0] g slices_S64x64x3x3_S64x64x1x1_0_0_0_0) shapeCasts_S64x64x1x1_S64x64) (shapeCast _ (extractStridedSlice S64x64x1x1 ![0, 0, 1, 1] g slices_S64x64x3x3_S64x64x1x1_0_0_1_1) shapeCasts_S64x64x1x1_S64x64)) (shapeCast _ (extractStridedSlice S64x64x1x1 ![0, 0, 2, 2] g slices_S64x64x3x3_S64x64x1x1_0_0_2_2) shapeCasts_S64x64x1x1_S64x64)) (mulf (mulf (shapeCast _ (extractStridedSlice S64x64x1x1 ![0, 0, 0, 1] g slices_S64x64x3x3_S64x64x1x1_0_0_0_1) shapeCasts_S64x64x1x1_S64x64) (shapeCast _ (extractStridedSlice S64x64x1x1 ![0, 0, 1, 2] g slices_S64x64x3x3_S64x64x1x1_0_0_1_2) shapeCasts_S64x64x1x1_S64x64)) (shapeCast _ (extractStridedSlice S64x64x1x1 ![0, 0, 2, 0] g slices_S64x64x3x3_S64x64x1x1_0_0_2_0) shapeCasts_S64x64x1x1_S64x64))) (mulf (mulf (shapeCast _ (extractStridedSlice S64x64x1x1 ![0, 0, 0, 2] g slices_S64x64x3x3_S64x64x1x1_0_0_0_2) shapeCasts_S64x64x1x1_S64x64) (shapeCast _ (extractStridedSlice S64x64x1x1 ![0, 0, 1, 0] g slices_S64x64x3x3_S64x64x1x1_0_0_1_0) shapeCasts_S64x64x1x1_S64x64)) (shapeCast _ (extractStridedSlice S64x64x1x1 ![0, 0, 2, 1] g slices_S64x64x3x3_S64x64x1x1_0_0_2_1) shapeCasts_S64x64x1x1_S64x64))) (mulf (mulf (shapeCast _ (extractStridedSlice S64x64x1x1 ![0, 0, 0, 2] g slices_S64x64x3x3_S64x64x1x1_0_0_0_2) shapeCasts_S64x64x1x1_S64x64) (shapeCast _ (extractStridedSlice S64x64x1x1 ![0, 0, 1, 1] g slices_S64x64x3x3_S64x64x1x1_0_0_1_1) shapeCasts_S64x64x1x1_S64x64)) (shapeCast _ (extractStridedSlice S64x64x1x1 ![0, 0, 2, 0] g slices_S64x64x3x3_S64x64x1x1_0_0_2_0) shapeCasts_S64x64x1x1_S64x64))) (mulf (mulf (shapeCast _ (extractStridedSlice S64x64x1x1 ![0, 0, 0, 1] g slices_S64x64x3x3_S64x64x1x1_0_0_0_1) shapeCasts_S64x64x1x1_S64x64) (shapeCast _ (extractStridedSlice S64x64x1x1 ![0, 0, 1, 0] g slices_S64x64x3x3_S64x64x1x1_0_0_1_0) shapeCasts_S64x64x1x1_S64x64)) (shapeCast _ (extractStridedSlice S64x64x1x1 ![0, 0, 2, 2] g slices_S64x64x3x3_S64x64x1x1_0_0_2_2) shapeCasts_S64x64x1x1_S64x64))) (mulf (mulf (shapeCast _ (extractStridedSlice S64x64x1x1 ![0, 0, 0, 0] g slices_S64x64x3x3_S64x64x1x1_0_0_0_0) shapeCasts_S64x64x1x1_S64x64) (shapeCast _ (extractStridedSlice S64x64x1x1 ![0, 0, 1, 2] g slices_S64x64x3x3_S64x64x1x1_0_0_1_2) shapeCasts_S64x64x1x1_S64x64)) (shapeCast _ (extractStridedSlice S64x64x1x1 ![0, 0, 2, 1] g slices_S64x64x3x3_S64x64x1x1_0_0_2_1) shapeCasts_S64x64x1x1_S64x64))) (broadcastInDim S64x64 ![] bcast_S_S64x64 (constant S_ .f32 0x00000000#32))))) (broadcastInDim S64x64x3x3 ![2, 3] bcast_S3x3_S64x64x3x3_2_3 (uitofp .f32 (cmpi .eq (addi (iotaInDim S3x3 32 0) (broadcastInDim S3x3 ![] bcast_S_S3x3 (constantI S_ 32 0#32))) (iotaInDim S3x3 32 1)))) g)⟩, ⟨S64x64x3x3, (broadcastInDim S64x64x3x3 ![2, 3] bcast_S3x3_S64x64x3x3_2_3 (uitofp .f32 (cmpi .eq (addi (iotaInDim S3x3 32 0) (broadcastInDim S3x3 ![] bcast_S_S3x3 (constantI S_ 32 0#32))) (iotaInDim S3x3 32 1))))⟩] concatenates_S64x64x3x3_S64x64x3x3_S64x64x3x6_d3 : FVec Ideal S64x64x3x6 .f32) (ix4 wb hb k q)
      = R.beside (fun k j => if R.det3 (fun k j => g (ix4 wb hb k j)) = 0 then R.eye k j else g (ix4 wb hb k j)) k q := by
  unfold R.beside R.det3
  pointwise
  split
  · next h => rw [eye_at k ⟨q, h⟩]
  · next h => rw [eye_at k ⟨q - 3, by omega⟩]

end Cert.Ref
-- ==== Proof.Ref5.lean ====
/-
  The reference's values at an index: the kept values, and the stack put together.
-/
module

public import proofs.«01_k».proof.Proof.Ref1
public import Idealize.ShloMosaic.Lib.Pointwise

@[expose] public section

set_option maxRecDepth 16384

noncomputable section

namespace Cert.Ref

open Idealize.ShloMosaic Cert.ReferenceIdeal Cert.ReferenceIdeal.Gen Cert.ReferenceIdeal.Value

/-- The sum of squares over the points of a window. -/
theorem squares_at (y : FVec Ideal S64x64x32x64 .f32) (wb hb : Fin 64) (n : Fin 32) :
    ((Host.reduceAdd (mulf y y) (constant S_ .f32 0x00000000#32) reducesTo_S64x64x32x64_S64x64x32_d3 h_S_) : FVec Ideal S64x64x32 .f32) (ix3 wb hb n) = ∑ p, y (ix4 wb hb n p) * y (ix4 wb hb n p) := by pointwise

theorem gap_at (w f : FVec Ideal S64x64x32x64 .f32) (wb hb p : Fin 64) (n : Fin 32) : subf (F := Ideal) w f (ix4 wb hb n p) = w (ix4 wb hb n p) - f (ix4 wb hb n p) := by pointwise

/-- The choice between the fitted and the given values. -/
theorem choice_at (k : IVec S64x64 1) (w f : FVec Ideal S64x64x32x64 .f32) (d : FVec Ideal S64x64x32 .f32) (wb hb p : Fin 64) (n : Fin 32) :
    ((select (broadcastInDim S64x64x32x64 ![0, 1, 2, 3] bcast_S64x64x1x1_S64x64x32x64_0_1_2_3 (broadcastInDim S64x64x1x1 ![0, 1] bcast_S64x64_S64x64x1x1_0_1 k)) w (select (broadcastInDim S64x64x32x64 ![0, 1, 2, 3] bcast_S64x64x32x1_S64x64x32x64_0_1_2_3 (broadcastInDim S64x64x32x1 ![0, 1, 2] bcast_S64x64x32_S64x64x32x1_0_1_2 (cmpf .ole (select (broadcastInDim S64x64x32 ![0, 1, 2] bcast_S64x64x1_S64x64x32_0_1_2 (broadcastInDim S64x64x1 ![0, 1] bcast_S64x64_S64x64x1_0_1 k)) (broadcastInDim S64x64x32 ![] bcast_S_S64x64x32 (id (constant S_ .f32 0x40000000#32))) d) (broadcastInDim S64x64x32 ![] bcast_S_S64x64x32 (constant S_ .f32 0x3F800000#32))))) f w)) : FVec Ideal S64x64x32x64 .f32) (ix4 wb hb n p)
      = Scalar.select (k (ix2 wb hb)) (w (ix4 wb hb n p)) (if Scalar.select (k (ix2 wb hb)) Plane.two (d (ix3 wb hb n)) ≤ 1 then f (ix4 wb hb n p) else w (ix4 wb hb n p)) := by
  unfold Plane.two; pointwise; rfl

theorem join1 (y : FVec Ideal S64x64x32x64 .f32) (wb hb : Fin 64) (n : Fin 32) (i l : Fin 8) :
    shapeCast S64x64x32x8x8 y shapeCasts_S64x64x32x64_S64x64x32x8x8 (ix5 wb hb n i l) = y (ix4 wb hb n ⟨8 * i + l, by omega⟩) := by
  pointwise
  simp only [mul_comm 8]
theorem join2 (y : FVec Ideal S64x64x32x8x8 .f32) (wb hb : Fin 64) (n : Fin 32) (i l : Fin 8) :
    transpose S32x64x8x64x8 [2, 1, 3, 0, 4] y transposes_S64x64x32x8x8_S32x64x8x64x8_2_1_3_0_4 (ix5 n hb i wb l) = y (ix5 wb hb n i l) := by pointwise
theorem join3 (y : FVec Ideal S32x64x8x64x8 .f32) (wb hb : Fin 64) (n : Fin 32) (i l : Fin 8) :
    shapeCast S32x512x512 y shapeCasts_S32x64x8x64x8_S32x512x512 (ix3 (n1 := 512) (n2 := 512) n (Plane.at8 hb i) (Plane.at8 wb l)) = y (ix5 n hb i wb l) := by
  unfold Plane.at8
  pointwise
theorem join4 (y : FVec Ideal S32x512x512 .f32) (z : FVec Ideal S1x32x512x512 .f32) (n : Fin 32) (r j : Fin 512) :
    addf (F := Ideal) (broadcastInDim S1x32x512x512 ![1, 2, 3] bcast_S32x512x512_S1x32x512x512_1_2_3 y) z (ix4 (n0 := 1) 0 n r j) = y (ix3 n r j) + z (ix4 (n0 := 1) 0 n r j) := by pointwise

/-- The stack put together from its windows, with the left neighbours added. -/
theorem join_at (y : FVec Ideal S64x64x32x64 .f32) (z : FVec Ideal S1x32x512x512 .f32) (wb hb p : Fin 64) (n : Fin 32) :
    (addf (broadcastInDim S1x32x512x512 ![1, 2, 3] bcast_S32x512x512_S1x32x512x512_1_2_3 (shapeCast _ (transpose S32x64x8x64x8 [2, 1, 3, 0, 4] (shapeCast _ y shapeCasts_S64x64x32x64_S64x64x32x8x8) transposes_S64x64x32x8x8_S32x64x8x64x8_2_1_3_0_4) shapeCasts_S32x64x8x64x8_S32x512x512)) z : FVec Ideal S1x32x512x512 .f32) (ix4 (n0 := 1) 0 n (Plane.at8 hb (R.row p)) (Plane.at8 wb (R.lane p)))
      = y (ix4 wb hb n p) + z (ix4 (n0 := 1) 0 n (Plane.at8 hb (R.row p)) (Plane.at8 wb (R.lane p))) := by
  refine (join4 _ z n _ _).trans (congrArg (· + _) ?_)
  refine (join3 _ wb hb n _ _).trans ((join2 _ wb hb n _ _).trans ((join1 y wb hb n _ _).trans ?_))
  congr 2
  exact Fin.ext (by simp [R.row, R.lane]; omega)

end Cert.Ref
-- ==== Proof.Reference.lean ====
/-
  The reference's values at an index: the whole result.
-/
module

public import proofs.«01_k».proof.Proof.Ref2
public import proofs.«01_k».proof.Proof.Ref3
public import proofs.«01_k».proof.Proof.Ref4
public import proofs.«01_k».proof.Proof.Ref5
public import Idealize.ShloMosaic.Lib.Pointwise

@[expose] public section

set_option maxRecDepth 16384

noncomputable section

namespace Cert.Ref

open Idealize.ShloMosaic Cert.ReferenceIdeal Cert.ReferenceIdeal.Gen Cert.ReferenceIdeal.Value

variable (V0 : Valuation τ sig (Elt Ideal))

theorem v26_at (wb hb p : Fin 64) (n : Fin 32) : res_main_v26 (F := Ideal) V0 (ix4 wb hb p n) = R.win (pic V0) wb hb n (R.row p) (R.lane p) := by
  refine (cut4 _ n wb hb p).trans ((cut3 _ n wb hb p).trans ((cut2 _ n wb hb _ _).trans ((cut1 _ n wb _ _).trans ?_)))
  refine (rounded_at (res_main_v11 (F := Ideal) V0) (res_main_v5 (F := Ideal) V0) (res_main_v7 (F := Ideal) V0) n _ _).trans ?_
  rw [v11_at, v7_at, v5_at]; rfl

theorem v27_at (wb hb p : Fin 64) (n : Fin 32) : res_main_v27 (F := Ideal) V0 (ix4 wb hb n p) = R.win (pic V0) wb hb n (R.row p) (R.lane p) :=
  (turned_at (res_main_v26 (F := Ideal) V0) wb hb p n).trans (v26_at V0 wb hb p n)

theorem v30_at (wb hb p : Fin 64) : res_main_v30 (F := Ideal) V0 (ix4 (n2 := 1) wb hb 0 p) = R.win (pic V0) wb hb 0 (R.row p) (R.lane p) :=
  (first_at (res_main_v27 (F := Ideal) V0) wb hb p).trans (v27_at V0 wb hb p 0)

theorem v33_at (wb hb p : Fin 64) : res_main_v33 (F := Ideal) V0 (ix4 (n2 := 1) wb hb 0 p) = R.win (pic V0) wb hb 1 (R.row p) (R.lane p) :=
  (second_at (res_main_v27 (F := Ideal) V0) wb hb p).trans (v27_at V0 wb hb p 1)

theorem v35_at (wb hb p : Fin 64) (k : Fin 3) : res_main_v35 (F := Ideal) V0 (ix4 wb hb k p) = R.base (R.win (pic V0) wb hb) k p := by
  refine (stack_at (res_main_v30 (F := Ideal) V0) (res_main_v33 (F := Ideal) V0) wb hb p k).trans ?_
  rw [v30_at, v33_at]; rfl

theorem v51_at (wb hb p : Fin 64) (k : Fin 3) : res_main_v51 (F := Ideal) V0 (ix4 wb hb p k) = R.base (R.win (pic V0) wb hb) k p :=
  (stackT_at (res_main_v35 (F := Ideal) V0) wb hb p k).trans (v35_at V0 wb hb p k)

theorem v52_at (wb hb : Fin 64) (k k' : Fin 3) : res_main_v52 (F := Ideal) V0 (ix4 wb hb k k') = R.gram (R.win (pic V0) wb hb) k k' := by
  refine (gram_at (res_main_v35 (F := Ideal) V0) (res_main_v51 (F := Ideal) V0) wb hb k k').trans ?_
  simp only [v35_at, v51_at]; rfl

theorem v123_at (wb hb : Fin 64) (k : Fin 3) (q : Fin 6) : res_main_v123 (F := Ideal) V0 (ix4 wb hb k q) = R.beside (R.mat (R.win (pic V0) wb hb)) k q := by
  refine (beside_at (res_main_v52 (F := Ideal) V0) wb hb k q).trans ?_
  simp only [v52_at]; unfold R.mat; congr

/-- One step of the elimination, of whatever stands at the window before it. -/
theorem v137_at (wb hb : Fin 64) (r : Fin 3) (q : Fin 6) : res_main_v137 (F := Ideal) V0 (ix4 wb hb r q) = R.step 0 0 (R.beside (R.mat (R.win (pic V0) wb hb))) r q := by
  refine (step0_at (res_main_v123 (F := Ideal) V0) (res_main_v129 (F := Ideal) V0) wb hb r q).trans ?_
  rw [show res_main_v129 (F := Ideal) V0 (ix4 (n2 := 1) wb hb 0 q) = _ from pivot0_at (res_main_v123 (F := Ideal) V0) wb hb q]
  simp only [v123_at]; rfl
theorem v149_at (wb hb : Fin 64) (r : Fin 3) (q : Fin 6) : res_main_v149 (F := Ideal) V0 (ix4 wb hb r q) = R.step 1 1 (R.step 0 0 (R.beside (R.mat (R.win (pic V0) wb hb)))) r q := by
  refine (step1_at (res_main_v137 (F := Ideal) V0) (res_main_v141 (F := Ideal) V0) wb hb r q).trans ?_
  rw [show res_main_v141 (F := Ideal) V0 (ix4 (n2 := 1) wb hb 0 q) = _ from pivot1_at (res_main_v137 (F := Ideal) V0) wb hb q]
  simp only [v137_at]; rfl
/-- The matrix after the elimination's last step. -/
def last : FVec Ideal S64x64x3x6 .f32 := ((select (broadcastInDim S64x64x3x6 ![0, 1, 2, 3] bcast_S1x1x3x1_S64x64x3x6_0_1_2_3 (cmpi .eq (res_main_v125 V0) (broadcastInDim S1x1x3x1 ![] bcast_S_S1x1x3x1 (constantI S_ 32 2#32)))) (broadcastInDim S64x64x3x6 ![0, 1, 2, 3] bcast_S64x64x1x6_S64x64x3x6_0_1_2_3 (res_main_v153 V0)) (subf (res_main_v149 V0) (mulf (broadcastInDim S64x64x3x6 ![0, 1, 2, 3] bcast_S64x64x3x1_S64x64x3x6_0_1_2_3 (extractStridedSlice S64x64x3x1 ![0, 0, 0, 2] (res_main_v149 V0) slices_S64x64x3x6_S64x64x3x1_0_0_0_2)) (broadcastInDim S64x64x3x6 ![0, 1, 2, 3] bcast_S64x64x1x6_S64x64x3x6_0_1_2_3 (res_main_v153 V0))))) : FVec Ideal S64x64x3x6 .f32)

theorem last_at (wb hb : Fin 64) (r : Fin 3) (q : Fin 6) : last V0 (ix4 wb hb r q) = R.step 2 2 (R.step 1 1 (R.step 0 0 (R.beside (R.mat (R.win (pic V0) wb hb))))) r q := by
  refine (step2_at (res_main_v149 (F := Ideal) V0) (res_main_v153 (F := Ideal) V0) wb hb r q).trans ?_
  rw [show res_main_v153 (F := Ideal) V0 (ix4 (n2 := 1) wb hb 0 q) = _ from pivot2_at (res_main_v149 (F := Ideal) V0) wb hb q]
  simp only [v149_at]; rfl

theorem v177_at (wb hb p : Fin 64) (n : Fin 32) : res_main_v177 (F := Ideal) V0 (ix4 wb hb n p) = Ideal.div (R.fit (R.win (pic V0) wb hb) n p) (R.lsb (pic V0)) := by
  refine (fitted_at (last V0) (res_main_v35 (F := Ideal) V0) (res_main_v51 (F := Ideal) V0) (res_main_v26 (F := Ideal) V0) (res_main_v175 (F := Ideal) V0) wb hb p n).trans ?_
  rw [v175_at]
  simp only [v35_at, v51_at, v26_at, last_at]
  unfold R.fit R.inv
  congr

theorem v182_at (wb hb p : Fin 64) (n : Fin 32) : res_main_v182 (F := Ideal) V0 (ix4 wb hb n p) = R.fitq (R.lsb (pic V0)) (R.win (pic V0) wb hb) n p := by
  refine (fitq_at (res_main_v177 (F := Ideal) V0) (res_main_v175 (F := Ideal) V0) wb hb p n).trans ?_
  rw [v177_at, v175_at]; rfl

theorem v183_at (wb hb p : Fin 64) (n : Fin 32) : res_main_v183 (F := Ideal) V0 (ix4 wb hb n p)
    = R.win (pic V0) wb hb n (R.row p) (R.lane p) - R.fitq (R.lsb (pic V0)) (R.win (pic V0) wb hb) n p := by
  refine (gap_at (res_main_v27 (F := Ideal) V0) (res_main_v182 (F := Ideal) V0) wb hb p n).trans ?_
  rw [v27_at, v182_at]

/-! ## The mask of constant windows -/

theorem all_points (P : Fin 8 → Fin 8 → Prop) : (∀ p : Fin 64, P (R.row p) (R.lane p)) ↔ ∀ i l, P i l := by
  refine ⟨fun h i l => ?_, fun h p => h _ _⟩
  have := h ⟨8 * i + l, by omega⟩
  have h1 : R.row ⟨8 * i + l, by omega⟩ = i := Fin.ext (by simp [R.row]; omega)
  have h2 : R.lane ⟨8 * i + l, by omega⟩ = l := Fin.ext (by simp [R.lane])
  rwa [h1, h2] at this

theorem top_eq (w : Win) (n : Fin 32) : (Finset.univ.fold max (Ideal.ofBits .f32 0xFF800000#32) fun p : Fin 64 => w n (R.row p) (R.lane p)) = Plane.top w n := by
  have hb : Ideal.ofBits .f32 0xFF800000#32 = ⊥ := by simp [Ideal.ofBits, Ideal.ieee]
  refine eq_of_forall_ge_iff fun z => ?_
  rw [Finset.fold_max_le, hb]; unfold Plane.top
  simp only [iSup_le_iff, bot_le, true_and, Finset.mem_univ, true_imp_iff]
  exact all_points fun i l => w n i l ≤ z
theorem bot_eq (w : Win) (n : Fin 32) : (Finset.univ.fold min (Ideal.ofBits .f32 0x7F800000#32) fun p : Fin 64 => w n (R.row p) (R.lane p)) = Plane.bot w n := by
  have hb : Ideal.ofBits .f32 0x7F800000#32 = ⊤ := by simp [Ideal.ofBits, Ideal.ieee]
  refine eq_of_forall_le_iff fun z => ?_
  rw [Finset.le_fold_min, hb]; unfold Plane.bot
  simp only [le_iInf_iff, le_top, true_and, Finset.mem_univ, true_imp_iff]
  exact all_points fun i l => z ≤ w n i l

open Classical in
theorem v50_at (wb hb : Fin 64) (x y : EReal) : Scalar.select (res_main_v50 (F := Ideal) V0 (ix2 wb hb)) x y = if Plane.isFlat (R.win (pic V0) wb hb) then x else y := by
  have h : res_main_v50 (F := Ideal) V0 (ix2 wb hb) = _ := mask_at _ _ _ _ wb hb
  rw [h, max_lane, min_lane, max_lane, min_lane]
  simp only [v30_at, v33_at, top_eq, bot_eq]
  unfold Plane.isFlat
  by_cases hp : Plane.top (R.win (pic V0) wb hb) 0 - Plane.bot (R.win (pic V0) wb hb) 0 < Plane.flat <;>
    by_cases hq : Plane.top (R.win (pic V0) wb hb) 1 - Plane.bot (R.win (pic V0) wb hb) 1 < Plane.flat <;> simp [hp, hq, Scalar.select, IntOp.andi]

/-- The reference's result at point `p` of a window of image `n`: the value it keeps, and the left neighbour. -/
theorem result_at (wb hb p : Fin 64) (n : Fin 32) :
    (addf (broadcastInDim S1x32x512x512 ![1, 2, 3] bcast_S32x512x512_S1x32x512x512_1_2_3 (shapeCast _ (transpose S32x64x8x64x8 [2, 1, 3, 0, 4] (shapeCast _ (select (broadcastInDim S64x64x32x64 ![0, 1, 2, 3] bcast_S64x64x1x1_S64x64x32x64_0_1_2_3 (broadcastInDim S64x64x1x1 ![0, 1] bcast_S64x64_S64x64x1x1_0_1 (res_main_v50 V0))) (res_main_v27 V0) (select (broadcastInDim S64x64x32x64 ![0, 1, 2, 3] bcast_S64x64x32x1_S64x64x32x64_0_1_2_3 (broadcastInDim S64x64x32x1 ![0, 1, 2] bcast_S64x64x32_S64x64x32x1_0_1_2 (cmpf .ole (select (broadcastInDim S64x64x32 ![0, 1, 2] bcast_S64x64x1_S64x64x32_0_1_2 (broadcastInDim S64x64x1 ![0, 1] bcast_S64x64_S64x64x1_0_1 (res_main_v50 V0))) (broadcastInDim S64x64x32 ![] bcast_S_S64x64x32 (id (constant S_ .f32 0x40000000#32))) (Host.reduceAdd (mulf (res_main_v183 V0) (res_main_v183 V0)) (constant S_ .f32 0x00000000#32) reducesTo_S64x64x32x64_S64x64x32_d3 h_S_)) (broadcastInDim S64x64x32 ![] bcast_S_S64x64x32 (constant S_ .f32 0x3F800000#32))))) (res_main_v182 V0) (res_main_v27 V0))) shapeCasts_S64x64x32x64_S64x64x32x8x8) transposes_S64x64x32x8x8_S32x64x8x64x8_2_1_3_0_4) shapeCasts_S32x64x8x64x8_S32x512x512)) (res_main_v2 V0) : FVec Ideal S1x32x512x512 .f32) (ix4 (n0 := 1) 0 n (Plane.at8 hb (R.row p)) (Plane.at8 wb (R.lane p)))
      = R.keep (R.lsb (pic V0)) (R.win (pic V0) wb hb) n p + Plane.left (pic V0) n (Plane.at8 hb (R.row p)) (Plane.at8 wb (R.lane p)) := by
  refine (join_at _ (res_main_v2 (F := Ideal) V0) wb hb p n).trans ?_
  rw [v2_at]
  refine congrArg (· + _) ?_
  refine (choice_at (res_main_v50 (F := Ideal) V0) (res_main_v27 (F := Ideal) V0) (res_main_v182 (F := Ideal) V0) _ wb hb p n).trans ?_
  rw [v50_at, v50_at, v27_at, v182_at]
  have hl := squares_at (res_main_v183 (F := Ideal) V0) wb hb n
  simp only [v183_at] at hl
  unfold R.keep R.loss
  rw [← hl]

end Cert.Ref
-- ==== Proof.Agree.lean ====
/-
  The kernel's result is the reference's: the two runs, read index by index.
-/
module

public import proofs.«01_k».proof.Defs
public import proofs.«01_k».proof.Proof.Cases
public import proofs.«01_k».proof.Proof.Kvalue
public import proofs.«01_k».proof.Proof.Reference

@[expose] public section

set_option maxRecDepth 16384

noncomputable section

namespace Cert.Agree

open Idealize.ShloMosaic Idealize.ShloMosaic.TcCoe Idealize.SL.Sem

/-- The kernel's result in the reference's words. -/
theorem result_eq (X : Pic) (wb hb p : Fin 64) (n : Fin 32) :
    K.result X n (Plane.at8 hb (R.row p)) (Plane.at8 wb (R.lane p))
      = R.keep (R.lsb X) (R.win X wb hb) n p + Plane.left X n (Plane.at8 hb (R.row p)) (Plane.at8 wb (R.lane p)) := by
  unfold K.result
  rw [Plane.blk_at8, Plane.blk_at8, Plane.off_at8, Plane.off_at8, Alg.keep_all]

/-- Two contents of the result's shape that agree at every point of every window are the same. -/
theorem ext_points (f g : FVec Ideal Cert.ReferenceIdeal.S1x32x512x512 .f32)
    (h : ∀ (wb hb p : Fin 64) (n : Fin 32), f (ix4 (n0 := 1) 0 n (Plane.at8 hb (R.row p)) (Plane.at8 wb (R.lane p))) = g (ix4 (n0 := 1) 0 n (Plane.at8 hb (R.row p)) (Plane.at8 wb (R.lane p)))) :
    f = g := by
  funext i
  refine (Ref.all_idx (fun i => f i = g i)).2 (fun n r j => ?_) i
  have hr : Plane.at8 (Plane.blk r) (R.row ⟨8 * (r % 8) + j % 8, by omega⟩) = r := by
    apply Fin.ext; show 8 * ((r : ℕ) / 8) + (8 * (r % 8) + j % 8) / 8 = r; omega
  have hj : Plane.at8 (Plane.blk j) (R.lane ⟨8 * (r % 8) + j % 8, by omega⟩) = j := by
    apply Fin.ext; show 8 * ((j : ℕ) / 8) + (8 * (r % 8) + j % 8) % 8 = j; omega
  have := h (Plane.blk j) (Plane.blk r) ⟨8 * (r % 8) + j % 8, by omega⟩ n
  rw [hr, hj] at this
  exact this

/-- From the same argument both programs end with the same result, over the extended reals. -/
theorem algebraic : Cert.algebraic_KernelIdeal_ReferenceIdeal (hKernelIdeal := Cert.KernelIdeal.Gen.facts) (hReferenceIdeal := Cert.ReferenceIdeal.Gen.facts) := by
  intro m g m' g' _ hargs
  refine ⟨fun c => Cert.KernelIdeal.Run.W5 (F := Ideal) m c (Proc.devRef .tc Cert.KernelIdeal.main_v0), ?_, ?_⟩
  · exact (θ_run _ _ _).mono (fun _ h c => ⟨(h.1 c).2, (h.1 c).1⟩) (Cert.KernelIdeal.Run.run m g)
  · refine (θ_run Cert.ReferenceIdeal.defs _ _).mono (fun r h c => ⟨(h c).1.trans ?_, (h c).2⟩) (Cert.ReferenceIdeal.Value.run m' g')
    refine ext_points _ _ fun wb hb p n => ?_
    refine (Ref.result_at (StableHlo.launchContents m' c) wb hb p n).trans ?_
    refine Eq.trans ?_ (Kvalue.result_at m c n _ _).symm
    rw [result_eq]
    have hX : Ref.pic (StableHlo.launchContents m' c) = Kvalue.pic0 (Cert.KernelIdeal.Run.W0 (F := Ideal) m c) := by
      funext n r j
      exact congrFun (hargs c) _
    rw [hX]

end Cert.Agree
-- ==== Proof.lean ====
/-
  The proof of `Cert.Claim`: the frames of the kernel, of its idealization and of the reference, and that the
  idealization preserves the kernel and, over the extended reals, gives the reference's result.
-/
module

public import proofs.«01_k».proof.Defs
public import proofs.«01_k».proof.Proof.BitsRun
public import proofs.«01_k».proof.Proof.IdealRun
public import proofs.«01_k».proof.Proof.Agree
public import proofs.«01_k».proof.Proof.Gen.Kernel
public import proofs.«01_k».proof.Proof.Gen.KernelIdeal
public import proofs.«01_k».proof.Proof.Gen.ReferenceIdeal.Run
public import proofs.«01_k».proof.Proof.Gen.ReferenceIdeal

@[expose] public section

noncomputable section

namespace Cert.Proof

open Idealize.ShloMosaic Idealize.SL.Sem

/-- The kernel's frame: the argument ends as launched and every semaphore counter at zero. -/
theorem kernel_frame : Cert.quiescent_Kernel := fun m ρ _ =>
  (θ_run _ _ _).mono (fun _ h => ⟨fun c => (h.1 c).1, h.2⟩) (Cert.Kernel.Run.run m ρ)

/-- The idealized kernel's frame. -/
theorem ideal_frame : Cert.quiescent_KernelIdeal := fun m ρ _ =>
  (θ_run _ _ _).mono (fun _ h => ⟨fun c => (h.1 c).1, h.2⟩) (Cert.KernelIdeal.Run.run m ρ)

/-- The reference's frame. -/
theorem reference_frame : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run m ρ)

theorem claim : Cert.Claim :=
  ⟨Cert.Kernel.Gen.facts, Cert.KernelIdeal.Gen.facts, Cert.ReferenceIdeal.Gen.facts, kernel_frame, ideal_frame, reference_frame, trivial, Cert.Agree.algebraic⟩

end Cert.Proof

end
